-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scale_nonneg [hPre_finite_scale_nonneg : Cert.Pre_finite_scale_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite_scale_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scale_nonneg [hPre_finite_scale_nonneg : Cert.Pre_finite_scale_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite_scale_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scale_nonneg [hKernelIdeal : Cert.KernelIdeal.Facts] [hPre_finite_scale_nonneg : Cert.Pre_finite_scale_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scale_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scale_nonneg [hReferenceIdeal : Cert.ReferenceIdeal.Facts] [hPre_finite_scale_nonneg : Cert.Pre_finite_scale_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scale_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_scale_nonneg [hKernelIdeal : Cert.KernelIdeal.Facts] [hReferenceIdeal : Cert.ReferenceIdeal.Facts] [hPre_finite_scale_nonneg : Cert.Pre_finite_scale_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scale_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_scale_nonneg : Cert.Pre_finite_scale_nonneg.Facts),
    quiescent_Kernel (hKernel := hKernel)
    ∧ quiescent_KernelIdeal (hKernelIdeal := hKernelIdeal)
    ∧ quiescent_KernelIdeal_pre_finite_scale_nonneg (hKernelIdeal := hKernelIdeal) (hPre_finite_scale_nonneg := hPre_finite_scale_nonneg)
    ∧ quiescent_ReferenceIdeal (hReferenceIdeal := hReferenceIdeal)
    ∧ quiescent_ReferenceIdeal_pre_finite_scale_nonneg (hReferenceIdeal := hReferenceIdeal) (hPre_finite_scale_nonneg := hPre_finite_scale_nonneg)
    ∧ preserves_Kernel_KernelIdeal
    ∧ algebraic_KernelIdeal_ReferenceIdeal_pre_finite_scale_nonneg (hKernelIdeal := hKernelIdeal) (hReferenceIdeal := hReferenceIdeal) (hPre_finite_scale_nonneg := hPre_finite_scale_nonneg)
-- ==== Pre_finite_scale_nonneg.lean ====
abbrev S16x3x32768 : Shape := ⟨3, ![16, 3, 32768]⟩
abbrev S16x29x32768 : Shape := ⟨3, ![16, 29, 32768]⟩
abbrev S32x32 : Shape := ⟨2, ![32, 32]⟩
abbrev S32 : Shape := ⟨1, ![32]⟩
abbrev S64x32 : Shape := ⟨2, ![64, 32]⟩
abbrev S64 : Shape := ⟨1, ![64]⟩
abbrev S_ : Shape := ⟨0, ![]⟩

class Facts : Prop where
  bcast_S_S16x3x32768 : S_.BroadcastsInDim S16x3x32768 (![] : Fin 0 → Fin S16x3x32768.rank)
  bcast_S_S16x29x32768 : S_.BroadcastsInDim S16x29x32768 (![] : Fin 0 → Fin S16x29x32768.rank)
  bcast_S_S32x32 : S_.BroadcastsInDim S32x32 (![] : Fin 0 → Fin S32x32.rank)
  bcast_S_S32 : S_.BroadcastsInDim S32 (![] : Fin 0 → Fin S32.rank)
  bcast_S_S64x32 : S_.BroadcastsInDim S64x32 (![] : Fin 0 → Fin S64x32.rank)
  bcast_S_S64 : S_.BroadcastsInDim S64 (![] : Fin 0 → Fin S64.rank)

variable [Facts]

def fn_part2 {F : FTy → Type} [FloatOps F] (main_arg12 : FVec F S64 .f32) (main_v2 : IVec S16x3x32768 1) (main_v5 : IVec S16x29x32768 1) (main_v8 : IVec S32x32 1) (main_v11 : IVec S32 1) (main_v14 : IVec S32 1) (main_v17 : IVec S32 1) (main_v20 : IVec S32x32 1) (main_v23 : IVec S32 1) (main_v26 : IVec S32 1) (main_v29 : IVec S32 1) (main_v32 : IVec S64x32 1) (main_v35 : IVec S64 1) : IVec S16x3x32768 1 × IVec S16x29x32768 1 × IVec S32x32 1 × IVec S32 1 × IVec S32 1 × IVec S32 1 × IVec S32x32 1 × IVec S32 1 × IVec S32 1 × IVec S32 1 × IVec S64x32 1 × IVec S64 1 × IVec S64 1 × IVec S64 1 :=
  let main_v36 : FVec F S64 .f32 := Host.absf main_arg12
  let main_cst_11 : FVec F S_ .f32 := constant S_ .f32 0x7F800000#32
  let main_v37 : FVec F S64 .f32 := broadcastInDim S64 ![] bcast_S_S64 main_cst_11
  let main_v38 : IVec S64 1 := cmpf .olt main_v36 main_v37
  let main_cst_12 : FVec F S_ .f32 := constant S_ .f32 0x00000000#32
  let main_v39 : FVec F S64 .f32 := broadcastInDim S64 ![] bcast_S_S64 main_cst_12
  let main_v40 : IVec S64 1 := cmpf .oge main_arg12 main_v39
  (main_v2, main_v5, main_v8, main_v11, main_v14, main_v17, main_v20, main_v23, main_v26, main_v29, main_v32, main_v35, main_v38, main_v40)

def fn_part1 {F : FTy → Type} [FloatOps F] (main_arg6 : FVec F S32x32 .f32) (main_arg7 : FVec F S32 .f32) (main_arg8 : FVec F S32 .f32) (main_arg9 : FVec F S32 .f32) (main_arg10 : FVec F S64x32 .f32) (main_arg11 : FVec F S64 .f32) (main_arg12 : FVec F S64 .f32) (main_v2 : IVec S16x3x32768 1) (main_v5 : IVec S16x29x32768 1) (main_v8 : IVec S32x32 1) (main_v11 : IVec S32 1) (main_v14 : IVec S32 1) (main_v17 : IVec S32 1) : IVec S16x3x32768 1 × IVec S16x29x32768 1 × IVec S32x32 1 × IVec S32 1 × IVec S32 1 × IVec S32 1 × IVec S32x32 1 × IVec S32 1 × IVec S32 1 × IVec S32 1 × IVec S64x32 1 × IVec S64 1 × IVec S64 1 × IVec S64 1 :=
  let main_v18 : FVec F S32x32 .f32 := Host.absf main_arg6
  let main_cst_5 : FVec F S_ .f32 := constant S_ .f32 0x7F800000#32
  let main_v19 : FVec F S32x32 .f32 := broadcastInDim S32x32 ![] bcast_S_S32x32 main_cst_5
  let main_v20 : IVec S32x32 1 := cmpf .olt main_v18 main_v19
  let main_v21 : FVec F S32 .f32 := Host.absf main_arg7
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_v24 : FVec F S32 .f32 := Host.absf main_arg8
  let main_cst_7 : FVec F S_ .f32 := constant S_ .f32 0x7F800000#32
  let main_v25 : FVec F S32 .f32 := broadcastInDim S32 ![] bcast_S_S32 main_cst_7
  let main_v26 : IVec S32 1 := cmpf .olt main_v24 main_v25
  let main_v27 : FVec F S32 .f32 := Host.absf main_arg9
  let main_cst_8 : FVec F S_ .f32 := constant S_ .f32 0x7F800000#32
  let main_v28 : FVec F S32 .f32 := broadcastInDim S32 ![] bcast_S_S32 main_cst_8
  let main_v29 : IVec S32 1 := cmpf .olt main_v27 main_v28
  let main_v30 : FVec F S64x32 .f32 := Host.absf main_arg10
  let main_cst_9 : FVec F S_ .f32 := constant S_ .f32 0x7F800000#32
  let main_v31 : FVec F S64x32 .f32 := broadcastInDim S64x32 ![] bcast_S_S64x32 main_cst_9
  let main_v32 : IVec S64x32 1 := cmpf .olt main_v30 main_v31
  let main_v33 : FVec F S64 .f32 := Host.absf main_arg11
  let main_cst_10 : FVec F S_ .f32 := constant S_ .f32 0x7F800000#32
  let main_v34 : FVec F S64 .f32 := broadcastInDim S64 ![] bcast_S_S64 main_cst_10
  let main_v35 : IVec S64 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S16x3x32768 .f32) (main_arg1 : FVec F S16x29x32768 .f32) (main_arg2 : FVec F S32x32 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) (main_arg10 : FVec F S64x32 .f32) (main_arg11 : FVec F S64 .f32) (main_arg12 : FVec F S64 .f32) (main_arg13 : FVec F S64 .f32) : IVec S16x3x32768 1 × IVec S16x29x32768 1 × IVec S32x32 1 × IVec S32 1 × IVec S32 1 × IVec S32 1 × IVec S32x32 1 × IVec S32 1 × IVec S32 1 × IVec S32 1 × IVec S64x32 1 × IVec S64 1 × IVec S64 1 × IVec S64 1 :=
  let main_v0 : FVec F S16x3x32768 .f32 := Host.absf main_arg0
  let main_cst : FVec F S_ .f32 := constant S_ .f32 0x7F800000#32
  let main_v1 : FVec F S16x3x32768 .f32 := broadcastInDim S16x3x32768 ![] bcast_S_S16x3x32768 main_cst
  let main_v2 : IVec S16x3x32768 1 := cmpf .olt main_v0 main_v1
  let main_v3 : FVec F S16x29x32768 .f32 := Host.absf main_arg1
  let main_cst_0 : FVec F S_ .f32 := constant S_ .f32 0x7F800000#32
  let main_v4 : FVec F S16x29x32768 .f32 := broadcastInDim S16x29x32768 ![] bcast_S_S16x29x32768 main_cst_0
  let main_v5 : IVec S16x29x32768 1 := cmpf .olt main_v3 main_v4
  let main_v6 : FVec F S32x32 .f32 := Host.absf main_arg2
  let main_cst_1 : FVec F S_ .f32 := constant S_ .f32 0x7F800000#32
  let main_v7 : FVec F S32x32 .f32 := broadcastInDim S32x32 ![] bcast_S_S32x32 main_cst_1
  let main_v8 : IVec S32x32 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg5
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg6 main_arg7 main_arg8 main_arg9 main_arg10 main_arg11 main_arg12 main_v2 main_v5 main_v8 main_v11 main_v14 main_v17
-- ==== Kernel.lean ====
abbrev S16x3x32768 : Shape := ⟨3, ![16, 3, 32768]⟩
abbrev S16x29x32768 : Shape := ⟨3, ![16, 29, 32768]⟩
abbrev S32x32 : Shape := ⟨2, ![32, 32]⟩
abbrev S32 : Shape := ⟨1, ![32]⟩
abbrev S64x32 : Shape := ⟨2, ![64, 32]⟩
abbrev S64 : Shape := ⟨1, ![64]⟩
abbrev S32x3 : Shape := ⟨2, ![32, 3]⟩
abbrev S32x29 : Shape := ⟨2, ![32, 29]⟩
abbrev S32x2 : Shape := ⟨2, ![32, 2]⟩
abbrev S16x32x32768 : Shape := ⟨3, ![16, 32, 32768]⟩
abbrev S4x3x32768 : Shape := ⟨3, ![4, 3, 32768]⟩
abbrev S4x29x32768 : Shape := ⟨3, ![4, 29, 32768]⟩
abbrev S4x32x32768 : Shape := ⟨3, ![4, 32, 32768]⟩
abbrev S32x1 : Shape := ⟨2, ![32, 1]⟩
abbrev S1x3x32768 : Shape := ⟨3, ![1, 3, 32768]⟩
abbrev S3x32768 : Shape := ⟨2, ![3, 32768]⟩
abbrev S32x32768 : Shape := ⟨2, ![32, 32768]⟩
abbrev S1x29x32768 : Shape := ⟨3, ![1, 29, 32768]⟩
abbrev S29x32768 : Shape := ⟨2, ![29, 32768]⟩
abbrev S1x32x32768 : Shape := ⟨3, ![1, 32, 32768]⟩
abbrev S64x1 : Shape := ⟨2, ![64, 1]⟩
abbrev S16x64x1 : Shape := ⟨3, ![16, 64, 1]⟩
abbrev S64x32768 : Shape := ⟨2, ![64, 32768]⟩
abbrev S1x64x1 : Shape := ⟨3, ![1, 64, 1]⟩
abbrev S_ : Shape := ⟨0, ![]⟩
abbrev S16x3x1 : Shape := ⟨3, ![16, 3, 1]⟩

abbrev nBuf : Space → Nat
  | .hbm => 30
  | .vmem => 35
  | .smem => 0
  | _ => 0

abbrev bufTy : (tb : Table) → Fin (tcTables nBuf tb) → BufTy
  | .hbm, ⟨0, _⟩ => ⟨S16x3x32768, .f32⟩
  | .hbm, ⟨1, _⟩ => ⟨S16x29x32768, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S64x32, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S32x3, .f32⟩
  | .hbm, ⟨15, _⟩ => ⟨S32x29, .f32⟩
  | .hbm, ⟨16, _⟩ => ⟨S32x2, .f32⟩
  | .hbm, ⟨17, _⟩ => ⟨S16x32x32768, .bf16⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S32x1, .f32⟩
  | .hbm, ⟨23, _⟩ => ⟨S32x1, .f32⟩
  | .hbm, ⟨24, _⟩ => ⟨S64x1, .f32⟩
  | .hbm, ⟨25, _⟩ => ⟨S64x1, .f32⟩
  | .hbm, ⟨26, _⟩ => ⟨S64x1, .f32⟩
  | .hbm, ⟨27, _⟩ => ⟨S16x64x1, .f32⟩
  | .hbm, ⟨28, _⟩ => ⟨S_, .f32⟩
  | .hbm, ⟨29, _⟩ => ⟨S16x3x1, .f32⟩
  | .local _ .vmem, ⟨0, _⟩ => ⟨S4x3x32768, .f32⟩
  | .local _ .vmem, ⟨1, _⟩ => ⟨S4x3x32768, .f32⟩
  | .local _ .vmem, ⟨2, _⟩ => ⟨S4x29x32768, .f32⟩
  | .local _ .vmem, ⟨3, _⟩ => ⟨S4x29x32768, .f32⟩
  | .local _ .vmem, ⟨4, _⟩ => ⟨S32x3, .f32⟩
  | .local _ .vmem, ⟨5, _⟩ => ⟨S32x29, .f32⟩
  | .local _ .vmem, ⟨6, _⟩ => ⟨S32x2, .f32⟩
  | .local _ .vmem, ⟨7, _⟩ => ⟨S4x32x32768, .bf16⟩
  | .local _ .vmem, ⟨8, _⟩ => ⟨S4x32x32768, .bf16⟩
  | .local _ .vmem, ⟨9, _⟩ => ⟨S32x1, .f32⟩
  | .local _ .vmem, ⟨10, _⟩ => ⟨S32x1, .f32⟩
  | .local _ .vmem, ⟨11, _⟩ => ⟨S4x32x32768, .bf16⟩
  | .local _ .vmem, ⟨12, _⟩ => ⟨S4x32x32768, .bf16⟩
  | .local _ .vmem, ⟨13, _⟩ => ⟨S32x2, .f32⟩
  | .local _ .vmem, ⟨14, _⟩ => ⟨S32x1, .f32⟩
  | .local _ .vmem, ⟨15, _⟩ => ⟨S32x1, .f32⟩
  | .local _ .vmem, ⟨16, _⟩ => ⟨S32x1, .f32⟩
  | .local _ .vmem, ⟨17, _⟩ => ⟨S32x32, .f32⟩
  | .local _ .vmem, ⟨18, _⟩ => ⟨S32x1, .f32⟩
  | .local _ .vmem, ⟨19, _⟩ => ⟨S32x1, .f32⟩
  | .local _ .vmem, ⟨20, _⟩ => ⟨S32x1, .f32⟩
  | .local _ .vmem, ⟨21, _⟩ => ⟨S64x32, .f32⟩
  | .local _ .vmem, ⟨22, _⟩ => ⟨S64x1, .f32⟩
  | .local _ .vmem, ⟨23, _⟩ => ⟨S64x1, .f32⟩
  | .local _ .vmem, ⟨24, _⟩ => ⟨S64x1, .f32⟩
  | .local _ .vmem, ⟨25, _⟩ => ⟨S16x64x1, .f32⟩
  | .local _ .vmem, ⟨26, _⟩ => ⟨S32x1, .f32⟩
  | .local _ .vmem, ⟨27, _⟩ => ⟨S32x1, .f32⟩
  | .local _ .vmem, ⟨28, _⟩ => ⟨S32x1, .f32⟩
  | .local _ .vmem, ⟨29, _⟩ => ⟨S64x1, .f32⟩
  | .local _ .vmem, ⟨30, _⟩ => ⟨S32x1, .f32⟩
  | .local _ .vmem, ⟨31, _⟩ => ⟨S32x1, .f32⟩
  | .local _ .vmem, ⟨32, _⟩ => ⟨S32x32, .f32⟩
  | .local _ .vmem, ⟨33, _⟩ => ⟨S32x1, .f32⟩
  | .local _ .vmem, ⟨34, _⟩ => ⟨S16x64x1, .f32⟩
  | _, _ => ⟨S16x3x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc1_scratch4 : Ref sig .tc := ⟨.vmem, 30, rfl⟩
abbrev cc1_scratch5 : Ref sig .tc := ⟨.vmem, 31, rfl⟩
abbrev cc1_scratch6 : Ref sig .tc := ⟨.vmem, 32, rfl⟩
abbrev cc1_scratch7 : Ref sig .tc := ⟨.vmem, 33, rfl⟩
abbrev cc1_scratch8 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v103 : BitVec 1 := Scalar.cmpi .eq arg0 c3_i32
  let v104 : BitVec 32 := Scalar.extui v103
  let c0_i32_74 : BitVec 32 := 0#32
  let v105 : BitVec 1 := Scalar.cmpi .ne v104 c0_i32_74
  v105

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x29x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x29 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x32x32768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 4], ![false, false]⟩

def k1_cond4 (i : grid1.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k1_off1 (i : grid1.Coords) (c0_i32_30 : BitVec 32) : Fin 3 → Nat :=
  let c4_i32 : BitVec 32 := 4#32
  let arg1 : BitVec 32 := BitVec.ofNat 32 (i 1).val
  let v52 : BitVec 32 := Scalar.muli c4_i32 arg1
  let v53 : BitVec 32 := Scalar.addi v52 c0_i32_30
  let v54 : Index := Scalar.indexCast v53
  let c0_31 : Index := 0#32
  let c0_32 : Index := 0#32
  ![v54.toNat, 0, 0]
def k1_cond5 (i : grid1.Coords) : BitVec 1 :=
  let arg0 : BitVec 32 := BitVec.ofNat 32 (i 0).val
  let c1_i32_8 : BitVec 32 := 1#32
  let v16 : BitVec 1 := Scalar.cmpi .eq arg0 c1_i32_8
  let arg1 : BitVec 32 := BitVec.ofNat 32 (i 1).val
  let c3_i32 : BitVec 32 := 3#32
  let v17 : BitVec 1 := Scalar.cmpi .eq arg1 c3_i32
  let v18 : BitVec 1 := Scalar.andi v16 v17
  let v19 : BitVec 32 := Scalar.extui v18
  let c0_i32_9 : BitVec 32 := 0#32
  let v20 : BitVec 1 := Scalar.cmpi .ne v19 c0_i32_9
  v20

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S4x32x32768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S32x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S64x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S16x64x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== ReferenceIdeal.lean ====
abbrev S16x3x32768 : Shape := ⟨3, ![16, 3, 32768]⟩
abbrev S16x29x32768 : Shape := ⟨3, ![16, 29, 32768]⟩
abbrev S32x32 : Shape := ⟨2, ![32, 32]⟩
abbrev S32 : Shape := ⟨1, ![32]⟩
abbrev S64x32 : Shape := ⟨2, ![64, 32]⟩
abbrev S64 : Shape := ⟨1, ![64]⟩
abbrev S16x32768x3 : Shape := ⟨3, ![16, 32768, 3]⟩
abbrev S16x32768x29 : Shape := ⟨3, ![16, 32768, 29]⟩
abbrev S_ : Shape := ⟨0, ![]⟩
abbrev S16x1x3 : Shape := ⟨3, ![16, 1, 3]⟩
abbrev S16x1x32768x3 : Shape := ⟨4, ![16, 1, 32768, 3]⟩
abbrev S16x1x32768x29 : Shape := ⟨4, ![16, 1, 32768, 29]⟩
abbrev S16x1x32768x32 : Shape := ⟨4, ![16, 1, 32768, 32]⟩
abbrev S16x32x32768x1 : Shape := ⟨4, ![16, 32, 32768, 1]⟩
abbrev S16x32768x1x32 : Shape := ⟨4, ![16, 32768, 1, 32]⟩
abbrev S1x32x1x1 : Shape := ⟨4, ![1, 32, 1, 1]⟩
abbrev S16x32768x1x64 : Shape := ⟨4, ![16, 32768, 1, 64]⟩
abbrev S16x64x32768x1 : Shape := ⟨4, ![16, 64, 32768, 1]⟩
abbrev S1x64x1x1 : Shape := ⟨4, ![1, 64, 1, 1]⟩
abbrev S16x64x1 : Shape := ⟨3, ![16, 64, 1]⟩
abbrev S16x3x1 : Shape := ⟨3, ![16, 3, 1]⟩

abbrev nBuf : Space → Nat
  | .hbm => 181
  | .vmem => 0
  | .smem => 0
  | _ => 0

abbrev hbmTy0_0 (i : Nat) : BufTy := match i % 128 with
  | 0 => ⟨S16x3x32768, .f32⟩
  | 1 => ⟨S16x29x32768, .f32⟩
  | 2 => ⟨S32x32, .f32⟩
  | 3 => ⟨S32, .f32⟩
  | 4 => ⟨S32, .f32⟩
  | 5 => ⟨S32, .f32⟩
  | 6 => ⟨S32x32, .f32⟩
  | 7 => ⟨S32, .f32⟩
  | 8 => ⟨S32, .f32⟩
  | 9 => ⟨S32, .f32⟩
  | 10 => ⟨S64x32, .f32⟩
  | 11 => ⟨S64, .f32⟩
  | 12 => ⟨S64, .f32⟩
  | 13 => ⟨S64, .f32⟩
  | 14 => ⟨S16x32768x3, .f32⟩
  | 15 => ⟨S16x32768x29, .f32⟩
  | 16 => ⟨S_, .f32⟩
  | 17 => ⟨S16x1x3, .f32⟩
  | 18 => ⟨S16x1x32768x3, .f32⟩
  | 19 => ⟨S16x1x32768x29, .f32⟩
  | 20 => ⟨S16x1x32768x32, .f32⟩
  | 21 => ⟨S16x32x32768x1, .f32⟩
  | 22 => ⟨S16x32768x1x32, .f32⟩
  | 23 => ⟨S16x32x32768x1, .f32⟩
  | 24 => ⟨S1x32x1x1, .f32⟩
  | 25 => ⟨S16x32x32768x1, .f32⟩
  | 26 => ⟨S16x32x32768x1, .f32⟩
  | 27 => ⟨S_, .f32⟩
  | 28 => ⟨S32, .f32⟩
  | 29 => ⟨S1x32x1x1, .f32⟩
  | 30 => ⟨S_, .f32⟩
  | 31 => ⟨S1x32x1x1, .f32⟩
  | 32 => ⟨S1x32x1x1, .f32⟩
  | 33 => ⟨S_, .i32⟩
  | 34 => ⟨S_, .f32⟩
  | 35 => ⟨S32, .f32⟩
  | 36 => ⟨S1x32x1x1, .f32⟩
  | 37 => ⟨S_, .f32⟩
  | 38 => ⟨S1x32x1x1, .f32⟩
  | 39 => ⟨S1x32x1x1, .f32⟩
  | 40 => ⟨S16x32x32768x1, .f32⟩
  | 41 => ⟨S16x32x32768x1, .f32⟩
  | 42 => ⟨S16x32x32768x1, .f32⟩
  | 43 => ⟨S_, .f32⟩
  | 44 => ⟨S_, .f32⟩
  | 45 => ⟨S_, .f32⟩
  | 46 => ⟨S_, .f32⟩
  | 47 => ⟨S32, .f32⟩
  | 48 => ⟨S1x32x1x1, .f32⟩
  | 49 => ⟨S1x32x1x1, .f32⟩
  | 50 => ⟨S1x32x1x1, .f32⟩
  | 51 => ⟨S_, .f32⟩
  | 52 => ⟨S_, .i1⟩
  | 53 => ⟨S_, .f32⟩
  | 54 => ⟨S_, .f32⟩
  | 55 => ⟨S1x32x1x1, .f32⟩
  | 56 => ⟨S1x32x1x1, .f32⟩
  | 57 => ⟨S16x32x32768x1, .f32⟩
  | 58 => ⟨S16x32x32768x1, .f32⟩
  | 59 => ⟨S_, .f32⟩
  | 60 => ⟨S1x32x1x1, .f32⟩
  | 61 => ⟨S1x32x1x1, .f32⟩
  | 62 => ⟨S1x32x1x1, .f32⟩
  | 63 => ⟨S16x32x32768x1, .f32⟩
  | 64 => ⟨S16x32x32768x1, .f32⟩
  | 65 => ⟨S1x32x1x1, .f32⟩
  | 66 => ⟨S16x32x32768x1, .f32⟩
  | 67 => ⟨S16x32x32768x1, .f32⟩
  | 68 => ⟨S1x32x1x1, .f32⟩
  | 69 => ⟨S16x32x32768x1, .f32⟩
  | 70 => ⟨S16x32x32768x1, .f32⟩
  | 71 => ⟨S_, .f32⟩
  | 72 => ⟨S16x32x32768x1, .f32⟩
  | 73 => ⟨S16x32x32768x1, .f32⟩
  | 74 => ⟨S16x32768x1x32, .f32⟩
  | 75 => ⟨S16x32x32768x1, .f32⟩
  | 76 => ⟨S1x32x1x1, .f32⟩
  | 77 => ⟨S16x32x32768x1, .f32⟩
  | 78 => ⟨S16x32x32768x1, .f32⟩
  | 79 => ⟨S_, .f32⟩
  | 80 => ⟨S32, .f32⟩
  | 81 => ⟨S1x32x1x1, .f32⟩
  | 82 => ⟨S_, .f32⟩
  | 83 => ⟨S1x32x1x1, .f32⟩
  | 84 => ⟨S1x32x1x1, .f32⟩
  | 85 => ⟨S_, .i32⟩
  | 86 => ⟨S_, .f32⟩
  | 87 => ⟨S32, .f32⟩
  | 88 => ⟨S1x32x1x1, .f32⟩
  | 89 => ⟨S_, .f32⟩
  | 90 => ⟨S1x32x1x1, .f32⟩
  | 91 => ⟨S1x32x1x1, .f32⟩
  | 92 => ⟨S16x32x32768x1, .f32⟩
  | 93 => ⟨S16x32x32768x1, .f32⟩
  | 94 => ⟨S16x32x32768x1, .f32⟩
  | 95 => ⟨S_, .f32⟩
  | 96 => ⟨S_, .f32⟩
  | 97 => ⟨S_, .f32⟩
  | 98 => ⟨S_, .f32⟩
  | 99 => ⟨S32, .f32⟩
  | 100 => ⟨S1x32x1x1, .f32⟩
  | 101 => ⟨S1x32x1x1, .f32⟩
  | 102 => ⟨S1x32x1x1, .f32⟩
  | 103 => ⟨S_, .f32⟩
  | 104 => ⟨S_, .i1⟩
  | 105 => ⟨S_, .f32⟩
  | 106 => ⟨S_, .f32⟩
  | 107 => ⟨S1x32x1x1, .f32⟩
  | 108 => ⟨S1x32x1x1, .f32⟩
  | 109 => ⟨S16x32x32768x1, .f32⟩
  | 110 => ⟨S16x32x32768x1, .f32⟩
  | 111 => ⟨S_, .f32⟩
  | 112 => ⟨S1x32x1x1, .f32⟩
  | 113 => ⟨S1x32x1x1, .f32⟩
  | 114 => ⟨S1x32x1x1, .f32⟩
  | 115 => ⟨S16x32x32768x1, .f32⟩
  | 116 => ⟨S16x32x32768x1, .f32⟩
  | 117 => ⟨S1x32x1x1, .f32⟩
  | 118 => ⟨S16x32x32768x1, .f32⟩
  | 119 => ⟨S16x32x32768x1, .f32⟩
  | 120 => ⟨S1x32x1x1, .f32⟩
  | 121 => ⟨S16x32x32768x1, .f32⟩
  | 122 => ⟨S16x32x32768x1, .f32⟩
  | 123 => ⟨S_, .f32⟩
  | 124 => ⟨S16x32x32768x1, .f32⟩
  | 125 => ⟨S16x32x32768x1, .f32⟩
  | 126 => ⟨S16x32768x1x64, .f32⟩
  | 127 => ⟨S16x64x32768x1, .f32⟩
  | _ => ⟨S16x3x32768, .f32⟩

abbrev hbmTy0_1 (i : Nat) : BufTy := match i % 128 with
  | 0 => ⟨S1x64x1x1, .f32⟩
  | 1 => ⟨S16x64x32768x1, .f32⟩
  | 2 => ⟨S16x64x32768x1, .f32⟩
  | 3 => ⟨S_, .f32⟩
  | 4 => ⟨S64, .f32⟩
  | 5 => ⟨S1x64x1x1, .f32⟩
  | 6 => ⟨S_, .f32⟩
  | 7 => ⟨S1x64x1x1, .f32⟩
  | 8 => ⟨S1x64x1x1, .f32⟩
  | 9 => ⟨S_, .i32⟩
  | 10 => ⟨S_, .f32⟩
  | 11 => ⟨S64, .f32⟩
  | 12 => ⟨S1x64x1x1, .f32⟩
  | 13 => ⟨S_, .f32⟩
  | 14 => ⟨S1x64x1x1, .f32⟩
  | 15 => ⟨S1x64x1x1, .f32⟩
  | 16 => ⟨S16x64x32768x1, .f32⟩
  | 17 => ⟨S16x64x32768x1, .f32⟩
  | 18 => ⟨S16x64x32768x1, .f32⟩
  | 19 => ⟨S_, .f32⟩
  | 20 => ⟨S_, .f32⟩
  | 21 => ⟨S_, .f32⟩
  | 22 => ⟨S_, .f32⟩
  | 23 => ⟨S64, .f32⟩
  | 24 => ⟨S1x64x1x1, .f32⟩
  | 25 => ⟨S1x64x1x1, .f32⟩
  | 26 => ⟨S1x64x1x1, .f32⟩
  | 27 => ⟨S_, .f32⟩
  | 28 => ⟨S_, .i1⟩
  | 29 => ⟨S_, .f32⟩
  | 30 => ⟨S_, .f32⟩
  | 31 => ⟨S1x64x1x1, .f32⟩
  | 32 => ⟨S1x64x1x1, .f32⟩
  | 33 => ⟨S16x64x32768x1, .f32⟩
  | 34 => ⟨S16x64x32768x1, .f32⟩
  | 35 => ⟨S_, .f32⟩
  | 36 => ⟨S1x64x1x1, .f32⟩
  | 37 => ⟨S1x64x1x1, .f32⟩
  | 38 => ⟨S1x64x1x1, .f32⟩
  | 39 => ⟨S16x64x32768x1, .f32⟩
  | 40 => ⟨S16x64x32768x1, .f32⟩
  | 41 => ⟨S1x64x1x1, .f32⟩
  | 42 => ⟨S16x64x32768x1, .f32⟩
  | 43 => ⟨S16x64x32768x1, .f32⟩
  | 44 => ⟨S1x64x1x1, .f32⟩
  | 45 => ⟨S16x64x32768x1, .f32⟩
  | 46 => ⟨S16x64x32768x1, .f32⟩
  | 47 => ⟨S_, .f32⟩
  | 48 => ⟨S16x64x32768x1, .f32⟩
  | 49 => ⟨S16x64x32768x1, .f32⟩
  | 50 => ⟨S_, .f32⟩
  | 51 => ⟨S16x64x1, .f32⟩
  | 52 => ⟨S16x3x1, .f32⟩
  | _ => ⟨S16x3x32768, .f32⟩

abbrev hbmTy (i : Nat) : BufTy := match i / 128 with
  | 0 => hbmTy0_0 i
  | 1 => hbmTy0_1 i
  | _ => ⟨S16x3x32768, .f32⟩

abbrev bufTy : (tb : Table) → Fin (tcTables nBuf tb) → BufTy
  | .hbm, ⟨i, _⟩ => hbmTy i
  | _, _ => ⟨S16x3x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_2 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call1_cst : Ref sig .tc := ⟨.hbm, 71, rfl⟩
abbrev main_call1_v0 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_3 : Ref sig .tc := ⟨.hbm, 79, rfl⟩
abbrev main_v36 : Ref sig .tc := ⟨.hbm, 80, rfl⟩
abbrev main_v37 : Ref sig .tc := ⟨.hbm, 81, rfl⟩
abbrev main_cst_4 : Ref sig .tc := ⟨.hbm, 82, rfl⟩
abbrev main_v38 : Ref sig .tc := ⟨.hbm, 83, rfl⟩
abbrev main_v39 : Ref sig .tc := ⟨.hbm, 84, rfl⟩
abbrev main_c_5 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_cst_3 : Ref sig .tc := ⟨.hbm, 103, rfl⟩
abbrev main_call2_v13 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_6 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_call3_cst : Ref sig .tc := ⟨.hbm, 123, rfl⟩
abbrev main_call3_v0 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_7 : Ref sig .tc := ⟨.hbm, 131, rfl⟩
abbrev main_v60 : Ref sig .tc := ⟨.hbm, 132, rfl⟩
abbrev main_v61 : Ref sig .tc := ⟨.hbm, 133, rfl⟩
abbrev main_cst_8 : Ref sig .tc := ⟨.hbm, 134, rfl⟩
abbrev main_v62 : Ref sig .tc := ⟨.hbm, 135, rfl⟩
abbrev main_v63 : Ref sig .tc := ⟨.hbm, 136, rfl⟩
abbrev main_c_9 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_cst_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_v6 : Ref sig .tc := ⟨.hbm, 146, rfl⟩
abbrev main_call4_v7 : Ref sig .tc := ⟨.hbm, 147, rfl⟩
abbrev main_call4_cst_1 : Ref sig .tc := ⟨.hbm, 148, rfl⟩
abbrev main_call4_v8 : Ref sig .tc := ⟨.hbm, 149, rfl⟩
abbrev main_call4_cst_2 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_v12 : Ref sig .tc := ⟨.hbm, 154, rfl⟩
abbrev main_call4_cst_3 : Ref sig .tc := ⟨.hbm, 155, rfl⟩
abbrev main_call4_v13 : Ref sig .tc := ⟨.hbm, 156, rfl⟩
abbrev main_call4_cst_4 : Ref sig .tc := ⟨.hbm, 157, rfl⟩
abbrev main_call4_call0_v0 : Ref sig .tc := ⟨.hbm, 158, rfl⟩
abbrev main_call4_call0_v1 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_cst_10 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_call5_cst : Ref sig .tc := ⟨.hbm, 175, rfl⟩
abbrev main_call5_v0 : Ref sig .tc := ⟨.hbm, 176, rfl⟩
abbrev main_v78 : Ref sig .tc := ⟨.hbm, 177, rfl⟩
abbrev main_cst_11 : Ref sig .tc := ⟨.hbm, 178, rfl⟩
abbrev main_v79 : Ref sig .tc := ⟨.hbm, 179, rfl⟩
abbrev main_v80 : Ref sig .tc := ⟨.hbm, 180, rfl⟩

abbrev nD : Nat := 1
abbrev τ : Topo := Topo.v7x

variable {F : FTy → Type} [FloatOps F]
-- ==== Proof.KernelIdeal.PackBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Pack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the clearing branch. -/
abbrev isFirst (i : grid0.Coords) : Prop := (Scalar.cmpi .ne (Scalar.extui (Scalar.cmpi .eq (BitVec.ofNat 32 (i 0).val) 0#32)) 0#32) = 1#1
/-- The condition of the branch that hands the sums out. -/
abbrev isLast (i : grid0.Coords) : Prop := k0_cond2 i = 1#1

/-- The part of a point's coordinates that one of its four batches takes. -/
abbrev xyzAt (x0 : Vec F S4x3x32768 .f32) (off : Fin 3 → ℕ) (inb : ∀ a : Fin 3, off a + (![1, 3, 32768] : Fin 3 → ℕ) a ≤ S4x3x32768.size a) : Vec F S1x3x32768 .f32 := View.ld x0 (Rect.unit (s := S4x3x32768) off ![1, 3, 32768] inb)
/-- The part of a point's features that one of its four batches takes. -/
abbrev ptsAt (x1 : Vec F S4x29x32768 .f32) (off : Fin 3 → ℕ) (inb : ∀ a : Fin 3, off a + (![1, 29, 32768] : Fin 3 → ℕ) a ≤ S4x29x32768.size a) : Vec F S1x29x32768 .f32 := View.ld x1 (Rect.unit (s := S4x29x32768) off ![1, 29, 32768] inb)

/-- The running sums after a point, from those before it. -/
def sums (x0 : Vec F S4x3x32768 .f32) (x1 : Vec F S4x29x32768 .f32) (x2 : Vec F S32x3 .f32) (x3 : Vec F S32x29 .f32) (s : Vec F S32x1 .f32) : Vec F S32x1 .f32 :=
  k0_pay21
    (k0_pay13 (k0_pay7 x2 (xyzAt x0 ![0, 0, 0] inb_S4x3x32768_S1x3x32768_0_0_0) x3 (ptsAt x1 ![0, 0, 0] inb_S4x29x32768_S1x29x32768_0_0_0))
      (k0_pay9 x2) (k0_pay10 (xyzAt x0 ![1, 0, 0] inb_S4x3x32768_S1x3x32768_1_0_0)) x3 (ptsAt x1 ![1, 0, 0] inb_S4x29x32768_S1x29x32768_1_0_0))
    (k0_pay15 x2 (xyzAt x0 ![2, 0, 0] inb_S4x3x32768_S1x3x32768_2_0_0) x3 (ptsAt x1 ![2, 0, 0] inb_S4x29x32768_S1x29x32768_2_0_0))
    x2 (xyzAt x0 ![3, 0, 0] inb_S4x3x32768_S1x3x32768_3_0_0) x3 (ptsAt x1 ![3, 0, 0] inb_S4x29x32768_S1x29x32768_3_0_0) s

/-- The running sums of squares after a point, from those before it. -/
def squares (x0 : Vec F S4x3x32768 .f32) (x1 : Vec F S4x29x32768 .f32) (x2 : Vec F S32x3 .f32) (x3 : Vec F S32x29 .f32) (s : Vec F S32x1 .f32) : Vec F S32x1 .f32 :=
  k0_pay1
    (k0_pay20
      (k0_pay14 (k0_pay8 x2 (xyzAt x0 ![0, 0, 0] inb_S4x3x32768_S1x3x32768_0_0_0) x3 (ptsAt x1 ![0, 0, 0] inb_S4x29x32768_S1x29x32768_0_0_0))
        (k0_pay9 x2) (k0_pay10 (xyzAt x0 ![1, 0, 0] inb_S4x3x32768_S1x3x32768_1_0_0)) x3 (ptsAt x1 ![1, 0, 0] inb_S4x29x32768_S1x29x32768_1_0_0))
      (k0_pay15 x2 (xyzAt x0 ![2, 0, 0] inb_S4x3x32768_S1x3x32768_2_0_0) x3 (ptsAt x1 ![2, 0, 0] inb_S4x29x32768_S1x29x32768_2_0_0))
      x2 (xyzAt x0 ![3, 0, 0] inb_S4x3x32768_S1x3x32768_3_0_0) x3 (ptsAt x1 ![3, 0, 0] inb_S4x29x32768_S1x29x32768_3_0_0)) s

/-- The four products a point writes. -/
def packed (x0 : Vec F S4x3x32768 .f32) (x1 : Vec F S4x29x32768 .f32) (x2 : Vec F S32x3 .f32) (x3 : Vec F S32x29 .f32) : Vec F S4x32x32768 .bf16 :=
  View.canon (Val := Elt F) (s := S4x32x32768) (e := .bf16)
    [⟨Rect.unit ![3, 0, 0] ![1, 32, 32768] inb_S4x32x32768_S1x32x32768_3_0_0,
        k0_pay19 x2 (xyzAt x0 ![3, 0, 0] inb_S4x3x32768_S1x3x32768_3_0_0) x3 (ptsAt x1 ![3, 0, 0] inb_S4x29x32768_S1x29x32768_3_0_0)⟩,
      ⟨Rect.unit ![2, 0, 0] ![1, 32, 32768] inb_S4x32x32768_S1x32x32768_2_0_0,
        k0_pay17 (k0_pay16 x2 (xyzAt x0 ![2, 0, 0] inb_S4x3x32768_S1x3x32768_2_0_0) x3 (ptsAt x1 ![2, 0, 0] inb_S4x29x32768_S1x29x32768_2_0_0))⟩,
      ⟨Rect.unit ![1, 0, 0] ![1, 32, 32768] inb_S4x32x32768_S1x32x32768_1_0_0,
        k0_pay12 (k0_pay9 x2) (k0_pay10 (xyzAt x0 ![1, 0, 0] inb_S4x3x32768_S1x3x32768_1_0_0)) x3 (ptsAt x1 ![1, 0, 0] inb_S4x29x32768_S1x29x32768_1_0_0)⟩,
      ⟨Rect.unit ![0, 0, 0] ![1, 32, 32768] inb_S4x32x32768_S1x32x32768_0_0_0,
        k0_pay6 x2 (xyzAt x0 ![0, 0, 0] inb_S4x3x32768_S1x3x32768_0_0_0) x3 (ptsAt x1 ![0, 0, 0] inb_S4x29x32768_S1x29x32768_0_0_0)⟩]

set_option maxHeartbeats 2000000 in
theorem run (c : Dev nD) (i : grid0.Coords) (arg1 : Memref sig .tc .vmem S4x3x32768 .f32) (harg1 : arg1.IsWhole) (arg2 : Memref sig .tc .vmem S4x29x32768 .f32) (harg2 : arg2.IsWhole) (arg3 : Memref sig .tc .vmem S32x3 .f32) (harg3 : arg3.IsWhole) (arg4 : Memref sig .tc .vmem S32x29 .f32) (harg4 : arg4.IsWhole) (arg5 : Memref sig .tc .vmem S32x2 .f32) (harg5 : arg5.IsWhole) (arg6 : Memref sig .tc .vmem S4x32x32768 .bf16) (harg6 : arg6.IsWhole) (arg7 : Memref sig .tc .vmem S32x1 .f32) (harg7 : arg7.IsWhole) (arg8 : Memref sig .tc .vmem S32x1 .f32) (harg8 : arg8.IsWhole)
    (x0 : Vec F S4x3x32768 .f32) (x1 : Vec F S4x29x32768 .f32) (x2 : Vec F S32x3 .f32) (x3 : Vec F S32x29 .f32) (d4 : Vec F S32x2 .f32) (xs0 : Vec F S32x1 .f32) (xs1 : Vec F S32x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (if isLast i then k0_pay2 (sums x0 x1 x2 x3 (if isFirst i then k0_pay3 else xs0)) (squares x0 x1 x2 x3 (if isFirst i then k0_pay4 else xs1)) else d4)
                ∗ owns (c : Thread nD τ) arg6 fullShare (packed x0 x1 x2 x3)
                ∗ owns (c : Thread nD τ) arg7 fullShare (sums x0 x1 x2 x3 (if isFirst i then k0_pay3 else xs0)) ∗ owns (c : Thread nD τ) arg8 fullShare (squares x0 x1 x2 x3 (if isFirst i then k0_pay4 else xs1))) -∗ K ⟨⟩))
          ⊢ wp frame (wpE (defs₀ (F := F)) Variants.none c none) E (cc0__pack_kernel i arg1 harg1 arg2 harg2 arg3 harg3 arg4 harg4 arg5 harg5 arg6 harg6 arg7 harg7 arg8 harg8) K := by
    simp only [cc0__pack_kernel_eq_skeleton]; unfold cc0__pack_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    by_cases hc0 : isFirst i <;> by_cases hc1 : isLast i
    all_goals
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; swap; · iexact H4
        ipureintro
        first | rw [if_pos hc1] | rw [if_neg hc1]
        first
          | exact harg5.read_unread _
          | first | rw [if_pos hc0, if_pos hc0] | rw [if_neg hc0, if_neg hc0]
            refine (View.read_writes_full _ _ _ _ _).trans ?_
            frame_out
            rfl
      isplitl [H5]
      · iexists _; isplitr; swap; · iexact H5
        ipureintro
        frame_out
        exact View.read_writes_eq_canon _ _ _ fun y => View.cover_of_tiled_head _ _ _ (by rfl) y
      isplitl [HS0]
      · iexists _; isplitr; swap; · iexact HS0
        ipureintro
        first | rw [if_pos hc0] | rw [if_neg hc0]
        refine (View.read_writes_full _ _ _ _ _).trans ?_
        frame_out
        rfl
      iexists _; isplitr; swap; · iexact HS1
      ipureintro
      first | rw [if_pos hc0] | rw [if_neg hc0]
      refine (View.read_writes_full _ _ _ _ _).trans ?_
      frame_out
      rfl

end Cert.KernelIdeal.Pack

end
-- ==== Proof.KernelIdeal.PackRegion.lean ====
module

public import proofs.«01_k».proof.Proof.KernelIdeal.PackBody
public import Idealize.ShloMosaic.Lib.Pipeline.Frame

@[expose] public section

set_option maxRecDepth 16384

noncomputable section

namespace Cert.KernelIdeal.Pack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w`'s array that point `t` reads or writes. -/
abbrev iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The clearing branch is taken at the first point. -/
theorem first_iff (t : Fin cfg0.N) : isFirst (grid0.coords t) ↔ t.val % 4 = 0 := by
  have e0 : (grid0.coords t 0).val = t.val / 1 % 4 := Pipeline.Grid.coords_val t 0 (by decide) rfl
  simp only [isFirst, e0]; word_cmp

/-- The sums are handed out at the last point. -/
theorem last_iff (t : Fin cfg0.N) : isLast (grid0.coords t) ↔ t.val % 4 = 3 := by
  have e0 : (grid0.coords t 0).val = t.val / 1 % 4 := Pipeline.Grid.coords_val t 0 (by decide) rfl
  simp only [isLast, k0_cond2, e0]; word_cmp

/-- What a point makes of the running sums and sums of squares. -/
def step (c : Dev nD) (t : Fin cfg0.N) (s : Vec F S32x1 .f32 × Vec F S32x1 .f32) : Vec F S32x1 .f32 × Vec F S32x1 .f32 :=
  (sums (iblk V c 0 t) (iblk V c 1 t) (iblk V c 2 t) (iblk V c 3 t) (if isFirst (grid0.coords t) then k0_pay3 else s.1),
    squares (iblk V c 0 t) (iblk V c 1 t) (iblk V c 2 t) (iblk V c 3 t) (if isFirst (grid0.coords t) then k0_pay4 else s.2))

/-- The running sums and sums of squares after `n` points. -/
def accum (c : Dev nD) : ℕ → Vec F S32x1 .f32 × Vec F S32x1 .f32
  | 0 => (k0_pay3, k0_pay4)
  | n + 1 => if h : n < cfg0.N then step V c ⟨n, h⟩ (accum c n) else accum c n

theorem accum_succ (c : Dev nD) (t : Fin cfg0.N) : accum V c (t.val + 1) = step V c t (accum V c t.val) :=
  dif_pos t.isLt

/-- A point makes the same of any two states that agree unless it is the first. -/
theorem step_eq (c : Dev nD) (t : Fin cfg0.N) (s : Vec F S32x1 .f32 × Vec F S32x1 .f32) (h : t.val ≠ 0 → s = accum V c t.val) :
    step V c t s = accum V c (t.val + 1) := by
  rw [accum_succ]
  by_cases hz : t.val = 0
  · have hf : isFirst (grid0.coords t) := (first_iff t).mpr (by omega)
    simp only [step, if_pos hf]
  · rw [h hz]

/-- What the region holds between points: the two scratch buffers at the running sums (at anything before the first point),
    the other scoped buffers, and the generator register. -/
def Inv (c : Dev nD) (n : ℕ) : sProp 𝕄 :=
  iprop((∃ s : Vec F S32x1 .f32 × Vec F S32x1 .f32, ⌜n ≠ 0 → s = accum V c n⌝
      ∗ owns (c : Thread nD τ) (Memref.whole cc0_scratch0) fullShare s.1 ∗ owns (c : Thread nD τ) (Memref.whole cc0_scratch1) fullShare s.2)
    ∗ Pipeline.scopedRestBut (Ix := Unit) (Name := ℕ) (U := UR sig nD τ) (Lvl := ℕ) (Val := Elt F) spec0 c [cc0_scratch0, cc0_scratch1]
    ∗ ∃ r, prngReg c r)

/-- The proof data of the first call on core `c`. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay2 (accum V c (t.val + 1)).1 (accum V c (t.val + 1)).2
    | ⟨5, _⟩ => packed (iblk V c 0 t) (iblk V c 1 t) (iblk V c 2 t) (iblk V c 3 t)
  Φ t := Inv V c t.val
  q _ := fullShare
  owed _ := 0

theorem A_eq (c : Dev nD) (w : Fin cfg0.W) : (dat V c).A w = V c (Proc.devRef .tc (Pipeline.arrRef spec0 w)) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = k0_pay2 (accum V c (t.val + 1)).1 (accum V c (t.val + 1)).2 := by dsimp only [dat]
theorem after5 (c : Dev nD) (t : Fin cfg0.N) : (dat V c).after 5 t = packed (iblk V c 0 t) (iblk V c 1 t) (iblk V c 2 t) (iblk V c 3 t) := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body leaves in the buffer of the sums is what the proof data ask of it. -/
theorem leaves4 (c : Dev nD) (t : Fin cfg0.N) (d4) :
    owns (c : Thread nD τ) (st0_4 t) fullShare (if isLast (grid0.coords t) then k0_pay2 (accum V c (t.val + 1)).1 (accum V c (t.val + 1)).2 else (dat V c).before 4 t d4)
      ⊢ ((dat V c).leavesExact 4 t : sProp 𝕄) := by
  by_cases h : isLast (grid0.coords t)
  · rw [if_pos h]
    have hi : cfg0.idle 4 (grid0.coords t) = false := by
      show (!(k0_cond2 (grid0.coords t) == 1#1)) = false
      rw [show k0_cond2 (grid0.coords t) = 1#1 from h]; rfl
    unfold Dat.leavesExact; rw [hi, after4]
  · rw [if_neg h]
    have hi : cfg0.idle 4 (grid0.coords t) = true := by
      show (!(k0_cond2 (grid0.coords t) == 1#1)) = true
      simpa using h
    have hf : (cfg0.win 4).flush t = false := by
      rw [Bool.eq_false_iff]; intro hf; exact h ((last_iff t).mpr ((flush0_4 t).mp hf))
    rw [(dat V c).leavesExact_idle 4 t hi hf]
    iintro H; iexists d4; iexact H

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t)

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl,
    show (dat V c).Φ t.castSucc = Inv V c t.val from rfl, show (dat V c).Φ t.succ = Inv V c (t.val + 1) from rfl]
  rw [show (dat V c).leavesExact 0 t = owns (c : Thread nD τ) (st0_0 t) fullShare (iblk V c 0 t) from by
      unfold Dat.leavesExact; rw [show cfg0.idle 0 (cfg0.grid.coords t) = false from rfl, after0],
    show (dat V c).leavesExact 1 t = owns (c : Thread nD τ) (st0_1 t) fullShare (iblk V c 1 t) from by
      unfold Dat.leavesExact; rw [show cfg0.idle 1 (cfg0.grid.coords t) = false from rfl, after1],
    show (dat V c).leavesExact 2 t = owns (c : Thread nD τ) (st0_2 t) fullShare (iblk V c 2 t) from by
      unfold Dat.leavesExact; rw [show cfg0.idle 2 (cfg0.grid.coords t) = false from rfl, after2],
    show (dat V c).leavesExact 3 t = owns (c : Thread nD τ) (st0_3 t) fullShare (iblk V c 3 t) from by
      unfold Dat.leavesExact; rw [show cfg0.idle 3 (cfg0.grid.coords t) = false from rfl, after3],
    show (dat V c).leavesExact 5 t = owns (c : Thread nD τ) (st0_5 t) fullShare (packed (iblk V c 0 t) (iblk V c 1 t) (iblk V c 2 t) (iblk V c 3 t)) from by
      unfold Dat.leavesExact; rw [show cfg0.idle 5 (cfg0.grid.coords t) = false from rfl, after5]]
  unfold Inv
  iintro ⟨⟨⟨%s, %hs, HS0, HS1⟩, Hr, Hg⟩, Ho, ⟨%d0, H0⟩, ⟨%d1, H1⟩, ⟨%d2, H2⟩, ⟨%d3, H3⟩, ⟨%d4, H4⟩, ⟨%d5, H5⟩⟩
  have hst := step_eq V c t s hs
  have e1 := congrArg Prod.fst hst
  have e2 := congrArg Prod.snd hst
  dsimp only [step] at e1 e2
  iapply (run c (grid0.coords t) _ _ _ _ _ _ _ _ _ _ _ _ _ _ _ _ (iblk V c 0 t) (iblk V c 1 t) (iblk V c 2 t) (iblk V c 3 t) ((dat V c).before 4 t d4) s.1 s.2 Set.univ _)
  rw [e1, e2]
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hr Hg]
  · isplitl [HS0 HS1]
    · iexists (accum V c (t.val + 1))
      isplitr; · ipureintro; exact fun _ => rfl
      isplitl [HS0] <;> iassumption
    isplitl [Hr] <;> iassumption
  isplitl [Ho]; · iexact Ho
  isplitl [H0]; · iexact H0
  isplitl [H1]; · iexact H1
  isplitl [H2]; · iexact H2
  isplitl [H3]; · iexact H3
  isplitl [H4]; · iapply (leaves4 V c t d4); iexact H4
  iexact H5

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The scoped buffers and the generator register give the invariant before the first point, -/
theorem hin (c : Dev nD) : iprop(Pipeline.scopedRest (Ix := Unit) (Name := ℕ) (U := UR sig nD τ) (Lvl := ℕ) (Val := Elt F) spec0 c ∗ ∃ r, prngReg c r) ⊢ ((dat V c).Φ 0 : sProp 𝕄) := by
  rw [show (dat V c).Φ 0 = Inv V c 0 from rfl, scopedRest0_split]
  unfold Inv
  iintro ⟨⟨⟨⟨%f0, H0⟩, ⟨%f1, H1⟩⟩, Hr⟩, Hg⟩
  isplitl [H0 H1]
  · iexists ((f0 : Vec F S32x1 .f32), (f1 : Vec F S32x1 .f32))
    isplitr; · ipureintro; exact fun h => absurd rfl h
    simp only [owns_whole_eq]
    isplitl [H0]
    · iexists _; isplitr; swap; · iexact H0
      ipureintro; rfl
    · iexists _; isplitr; swap; · iexact H1
      ipureintro; rfl
  isplitl [Hr] <;> iassumption

/-- and the invariant after the last gives them back. -/
theorem hout (c : Dev nD) : ((dat V c).Φ (Fin.last cfg0.N) : sProp 𝕄) ⊢ iprop(Pipeline.scopedRest (Ix := Unit) (Name := ℕ) (U := UR sig nD τ) (Lvl := ℕ) (Val := Elt F) spec0 c ∗ ∃ r, prngReg c r) := by
  rw [show (dat V c).Φ (Fin.last cfg0.N) = Inv V c cfg0.N from rfl, scopedRest0_split]
  unfold Inv
  simp only [owns_whole_eq]
  iintro ⟨⟨%s, -, ⟨%f0, -, H0⟩, ⟨%f1, -, H1⟩⟩, Hr, Hg⟩
  isplitl [H0 H1 Hr]
  · isplitl [H0 H1]
    · isplitl [H0]
      · iexists _; iexact H0
      · iexists _; iexact H1
    iexact Hr
  iexact Hg

end Cert.KernelIdeal.Pack

end
-- ==== Proof.KernelIdeal.MlpBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one point of the grid reads. -/
structure Ins (F : FTy → Type) where
  d : Vec F S4x32x32768 .bf16
  st : Vec F S32x2 .f32
  b0 : Vec F S32x1 .f32
  g0 : Vec F S32x1 .f32
  e0 : Vec F S32x1 .f32
  W1 : Vec F S32x32 .f32
  b1 : Vec F S32x1 .f32
  g1 : Vec F S32x1 .f32
  e1 : Vec F S32x1 .f32
  W2 : Vec F S64x32 .f32
  b2 : Vec F S64x1 .f32
  g2 : Vec F S64x1 .f32
  e2 : Vec F S64x1 .f32

/-- What the points hand on to one another: the running sums, the scales and shifts made from them, and the maxima. -/
structure St (F : FTy → Type) where
  sd2 : Vec F S32x1 .f32
  sq2 : Vec F S32x1 .f32
  sh2 : Vec F S32x1 .f32
  sq3 : Vec F S64x1 .f32
  a1 : Vec F S32x1 .f32
  c1 : Vec F S32x1 .f32
  w1 : Vec F S32x32 .f32
  c2 : Vec F S32x1 .f32
  mx : Vec F S16x64x1 .f32

/-- The condition of the branch of the first point. -/
abbrev isFirst (i : grid1.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
/-- The condition of the branch of the second pass's first point. -/
abbrev isFold (i : grid1.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1
/-- The condition of the first pass. -/
abbrev isPass0 (i : grid1.Coords) : Prop := Scalar.cmpi .ne (Scalar.extui (Scalar.cmpi .eq (BitVec.ofNat 32 (i 0).val) 0#32)) 0#32 = 1#1
/-- The condition of the second pass. -/
abbrev isPass1 (i : grid1.Coords) : Prop := k1_cond4 i = 1#1
/-- The condition of the branch that makes the result. -/
abbrev isLast (i : grid1.Coords) : Prop := k1_cond5 i = 1#1

/-- The five kinds of point the grid has. -/
def IsCase (i : grid1.Coords) : Prop :=
  (isFirst i ∧ ¬isFold i ∧ isPass0 i ∧ ¬isPass1 i ∧ ¬isLast i) ∨ (¬isFirst i ∧ ¬isFold i ∧ isPass0 i ∧ ¬isPass1 i ∧ ¬isLast i)
    ∨ (¬isFirst i ∧ isFold i ∧ ¬isPass0 i ∧ isPass1 i ∧ ¬isLast i) ∨ (¬isFirst i ∧ ¬isFold i ∧ ¬isPass0 i ∧ isPass1 i ∧ ¬isLast i)
    ∨ (¬isFirst i ∧ ¬isFold i ∧ ¬isPass0 i ∧ isPass1 i ∧ isLast i)

/-- The part of a point's block that one of its four batches takes. -/
abbrev blkAt (d : Vec F S4x32x32768 .bf16) (off : Fin 3 → ℕ) (inb : ∀ a : Fin 3, off a + (![1, 32, 32768] : Fin 3 → ℕ) a ≤ S4x32x32768.size a) : Vec F S1x32x32768 .bf16 := View.ld d (Rect.unit (s := S4x32x32768) off ![1, 32, 32768] inb)
/-- The column of sums. -/
abbrev sumCol (st : Vec F S32x2 .f32) : Vec F S32x1 .f32 := View.ld st (Rect.unit (s := S32x2) ![0, 0] ![32, 1] inb_S32x2_S32x1_0_0)
/-- The column of sums of squares. -/
abbrev sqCol (st : Vec F S32x2 .f32) : Vec F S32x1 .f32 := View.ld st (Rect.unit (s := S32x2) ![0, 1] ![32, 1] inb_S32x2_S32x1_0_1)

/-- The first layer's scale. -/
def scale1 (X : Ins F) : Vec F S32x1 .f32 :=
  k1_pay2 (k1_pay18 X.b0 (sumCol X.st)) (k1_pay19 X.b0 (sumCol X.st) (sqCol X.st)) (k1_pay20 X.b0) X.g0
/-- The first layer's shift. -/
def shift1 (X : Ins F) : Vec F S32x1 .f32 :=
  k1_pay3 (k1_pay16 X.b0) (k1_pay18 X.b0 (sumCol X.st)) (k1_pay19 X.b0 (sumCol X.st) (sqCol X.st)) (k1_pay20 X.b0) X.g0 X.e0

/-- What the first point does to the state. -/
def clear (X : Ins F) (s : St F) : St F :=
  { s with sd2 := k1_pay12, sq2 := k1_pay13, sh2 := k1_pay14, sq3 := k1_pay15, a1 := scale1 X, c1 := shift1 X }

/-- What the second pass's first point does to the state: the second layer's scale goes into its weights. -/
def fold (X : Ins F) (s : St F) : St F :=
  { s with w1 := k1_pay24 X.b1 s.sd2 s.sq2 s.sd2 X.g1 X.W1, c2 := k1_pay4 (k1_pay25 X.b1 s.sd2 s.sq2 s.sd2 X.g1) X.e1 }

/-- What a point of the first pass does to the state. -/
def pass0 (X : Ins F) (s : St F) : St F :=
  { s with
    sd2 := k1_pay6
      (k1_pay32 (k1_pay27 (blkAt X.d ![0, 0, 0] inb_S4x32x32768_S1x32x32768_0_0_0) s.a1 s.c1 X.W1)
        (k1_pay29 (blkAt X.d ![1, 0, 0] inb_S4x32x32768_S1x32x32768_1_0_0) s.a1 s.c1) X.W1 (constant S32x32768 FTy.f32 0#32)
        (blkAt X.d ![2, 0, 0] inb_S4x32x32768_S1x32x32768_2_0_0) s.a1 s.c1 X.W1)
      (k1_pay34 (blkAt X.d ![3, 0, 0] inb_S4x32x32768_S1x32x32768_3_0_0) s.a1 s.c1) (FloatOps.ofBits FTy.f32 0#32) X.W1 s.sd2
    sq2 := k1_pay7
      (k1_pay33 (k1_pay28 (blkAt X.d ![0, 0, 0] inb_S4x32x32768_S1x32x32768_0_0_0) s.a1 s.c1 X.W1)
        (k1_pay29 (blkAt X.d ![1, 0, 0] inb_S4x32x32768_S1x32x32768_1_0_0) s.a1 s.c1) X.W1 (constant S32x32768 FTy.f32 0#32)
        (blkAt X.d ![2, 0, 0] inb_S4x32x32768_S1x32x32768_2_0_0) s.a1 s.c1 X.W1)
      (k1_pay34 (blkAt X.d ![3, 0, 0] inb_S4x32x32768_S1x32x32768_3_0_0) s.a1 s.c1) (FloatOps.ofBits FTy.f32 0#32) X.W1 s.sq2 }

/-- The maxima with the four rows of a point of the second pass put in. -/
def putRows (i : grid1.Coords) (X : Ins F) (s : St F) : Vec F S16x64x1 .f32 :=
  VecWindow.put (VecWindow.put (VecWindow.put (VecWindow.put s.mx
    ![4 * (i 1).val + 0, 0, 0] ![1, 64, 1] (k1_pay40 (k1_pay39 (blkAt X.d ![0, 0, 0] inb_S4x32x32768_S1x32x32768_0_0_0) s.a1 s.c1 s.w1 s.c2 X.W2)))
    ![4 * (i 1).val + 1, 0, 0] ![1, 64, 1] (k1_pay46 (k1_pay45 (blkAt X.d ![1, 0, 0] inb_S4x32x32768_S1x32x32768_1_0_0) s.a1 s.c1 s.w1 s.c2 X.W2)))
    ![4 * (i 1).val + 2, 0, 0] ![1, 64, 1] (k1_pay52 (k1_pay51 (blkAt X.d ![2, 0, 0] inb_S4x32x32768_S1x32x32768_2_0_0) s.a1 s.c1 s.w1 s.c2 X.W2)))
    ![4 * (i 1).val + 3, 0, 0] ![1, 64, 1] (k1_pay8 (k1_pay57 (blkAt X.d ![3, 0, 0] inb_S4x32x32768_S1x32x32768_3_0_0) s.a1 s.c1 s.w1 s.c2 X.W2))

/-- What a point of the second pass does to the state. -/
def pass1 (i : grid1.Coords) (X : Ins F) (s : St F) : St F :=
  { s with
    sh2 := k1_pay9
      (k1_pay55 (k1_pay49 (k1_pay43 (k1_pay37 (blkAt X.d ![0, 0, 0] inb_S4x32x32768_S1x32x32768_0_0_0) s.a1 s.c1 s.w1 s.c2)
        (blkAt X.d ![1, 0, 0] inb_S4x32x32768_S1x32x32768_1_0_0) s.a1 s.c1 s.w1 s.c2)
        (blkAt X.d ![2, 0, 0] inb_S4x32x32768_S1x32x32768_2_0_0) s.a1 s.c1 s.w1 s.c2)
        (blkAt X.d ![3, 0, 0] inb_S4x32x32768_S1x32x32768_3_0_0) s.a1 s.c1 s.w1 s.c2) s.sh2
    sq3 := k1_pay10
      (k1_pay56 (k1_pay50 (k1_pay44 (k1_pay38 (blkAt X.d ![0, 0, 0] inb_S4x32x32768_S1x32x32768_0_0_0) s.a1 s.c1 s.w1 s.c2 X.W2)
        (blkAt X.d ![1, 0, 0] inb_S4x32x32768_S1x32x32768_1_0_0) s.a1 s.c1 s.w1 s.c2 X.W2)
        (blkAt X.d ![2, 0, 0] inb_S4x32x32768_S1x32x32768_2_0_0) s.a1 s.c1 s.w1 s.c2 X.W2)
        (blkAt X.d ![3, 0, 0] inb_S4x32x32768_S1x32x32768_3_0_0) s.a1 s.c1 s.w1 s.c2 X.W2) s.sq3
    mx := putRows i X s }

/-- The result, from the state after the last point. -/
def made (X : Ins F) (s : St F) : Vec F S16x64x1 .f32 :=
  k1_pay11 (k1_pay62 X.b2 X.W2 s.sh2 s.sq3 X.g2 X.e2) (k1_pay63 X.b2 X.W2 s.sh2 s.sq3 X.g2) (k1_pay64 X.b2 s.mx)

/-- What a point does to the state. -/
def step (i : grid1.Coords) (X : Ins F) (s : St F) : St F :=
  if isPass0 i then pass0 X (if isFirst i then clear X s else s) else pass1 i X (if isFold i then fold X s else s)

/-- What a point leaves in the result's buffer. -/
def result (i : grid1.Coords) (X : Ins F) (s : St F) (d13 : Vec F S16x64x1 .f32) : Vec F S16x64x1 .f32 :=
  if isLast i then made X (step i X s) else d13

/-- What the buffer of the maxima reads after a point of the second pass has written its four rows. -/
theorem read_rows {sg : RefSig} {κ : Kind} {sp : Space} (v : View sg κ sp S16x64x1 .f32) (f : v.ty.Contents (Elt F)) (i : grid1.Coords) (inb : ∀ r : Fin 4, ∀ a, k1_off1 i (BitVec.ofNat 32 r.val) a + (![1, 64, 1] : Fin 3 → ℕ) a ≤ S16x64x1.size a)
    (w0 w1 w2 w3 : Vec F S1x64x1 .f32) :
    v.read (Elt F) (v.writes (Elt F) f
      [⟨Rect.unit (k1_off1 i 3#32) ![1, 64, 1] (inb 3), w3⟩, ⟨Rect.unit (k1_off1 i 2#32) ![1, 64, 1] (inb 2), w2⟩,
        ⟨Rect.unit (k1_off1 i 1#32) ![1, 64, 1] (inb 1), w1⟩, ⟨Rect.unit (k1_off1 i 0#32) ![1, 64, 1] (inb 0), w0⟩])
      = VecWindow.put (VecWindow.put (VecWindow.put (VecWindow.put (v.read (Elt F) f)
          ![4 * (i 1).val + 0, 0, 0] ![1, 64, 1] w0) ![4 * (i 1).val + 1, 0, 0] ![1, 64, 1] w1)
          ![4 * (i 1).val + 2, 0, 0] ![1, 64, 1] w2) ![4 * (i 1).val + 3, 0, 0] ![1, 64, 1] w3 := by
  refine (View.read_writes_cons_put v f (inb 3) w3 _ (k1_off1_eq i 3)).trans (congrArg (fun x => VecWindow.put x _ _ _) ?_)
  refine (View.read_writes_cons_put v f (inb 2) w2 _ (k1_off1_eq i 2)).trans (congrArg (fun x => VecWindow.put x _ _ _) ?_)
  refine (View.read_writes_cons_put v f (inb 1) w1 _ (k1_off1_eq i 1)).trans (congrArg (fun x => VecWindow.put x _ _ _) ?_)
  exact View.read_writes_cons_put v f (inb 0) w0 _ (k1_off1_eq i 0)

set_option maxHeartbeats 2000000 in
theorem run (c : Dev nD) (i : grid1.Coords) (arg2 : Memref sig .tc .vmem S4x32x32768 .bf16) (harg2 : arg2.IsWhole) (arg3 : Memref sig .tc .vmem S32x2 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S64x32 .f32) (harg11 : arg11.IsWhole) (arg12 : Memref sig .tc .vmem S64x1 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S16x64x1 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x1 .f32) (harg18 : arg18.IsWhole) (arg19 : Memref sig .tc .vmem S64x1 .f32) (harg19 : arg19.IsWhole) (arg20 : Memref sig .tc .vmem S32x1 .f32) (harg20 : arg20.IsWhole) (arg21 : Memref sig .tc .vmem S32x1 .f32) (harg21 : arg21.IsWhole) (arg22 : Memref sig .tc .vmem S32x32 .f32) (harg22 : arg22.IsWhole) (arg23 : Memref sig .tc .vmem S32x1 .f32) (harg23 : arg23.IsWhole) (arg24 : Memref sig .tc .vmem S16x64x1 .f32) (harg24 : arg24.IsWhole)
    (X : Ins F) (s : St F) (d13 : Vec F S16x64x1 .f32) (hi : IsCase i) (E : Set ℕ) (K : PUnit → sProp 𝕄) :
        iprop(owns (c : Thread nD τ) arg2 fullShare X.d ∗ owns (c : Thread nD τ) arg3 fullShare X.st ∗ owns (c : Thread nD τ) arg4 fullShare X.b0 ∗ owns (c : Thread nD τ) arg5 fullShare X.g0 ∗ owns (c : Thread nD τ) arg6 fullShare X.e0 ∗ owns (c : Thread nD τ) arg7 fullShare X.W1 ∗ owns (c : Thread nD τ) arg8 fullShare X.b1 ∗ owns (c : Thread nD τ) arg9 fullShare X.g1 ∗ owns (c : Thread nD τ) arg10 fullShare X.e1 ∗ owns (c : Thread nD τ) arg11 fullShare X.W2 ∗ owns (c : Thread nD τ) arg12 fullShare X.b2 ∗ owns (c : Thread nD τ) arg13 fullShare X.g2 ∗ owns (c : Thread nD τ) arg14 fullShare X.e2 ∗ owns (c : Thread nD τ) arg15 fullShare d13 ∗ owns (c : Thread nD τ) arg16 fullShare s.sd2 ∗ owns (c : Thread nD τ) arg17 fullShare s.sq2 ∗ owns (c : Thread nD τ) arg18 fullShare s.sh2 ∗ owns (c : Thread nD τ) arg19 fullShare s.sq3 ∗ owns (c : Thread nD τ) arg20 fullShare s.a1 ∗ owns (c : Thread nD τ) arg21 fullShare s.c1 ∗ owns (c : Thread nD τ) arg22 fullShare s.w1 ∗ owns (c : Thread nD τ) arg23 fullShare s.c2 ∗ owns (c : Thread nD τ) arg24 fullShare s.mx
            ∗ (iprop(owns (c : Thread nD τ) arg2 fullShare X.d ∗ owns (c : Thread nD τ) arg3 fullShare X.st ∗ owns (c : Thread nD τ) arg4 fullShare X.b0 ∗ owns (c : Thread nD τ) arg5 fullShare X.g0 ∗ owns (c : Thread nD τ) arg6 fullShare X.e0 ∗ owns (c : Thread nD τ) arg7 fullShare X.W1 ∗ owns (c : Thread nD τ) arg8 fullShare X.b1 ∗ owns (c : Thread nD τ) arg9 fullShare X.g1 ∗ owns (c : Thread nD τ) arg10 fullShare X.e1 ∗ owns (c : Thread nD τ) arg11 fullShare X.W2 ∗ owns (c : Thread nD τ) arg12 fullShare X.b2 ∗ owns (c : Thread nD τ) arg13 fullShare X.g2 ∗ owns (c : Thread nD τ) arg14 fullShare X.e2 ∗ owns (c : Thread nD τ) arg15 fullShare (result i X s d13) ∗ owns (c : Thread nD τ) arg16 fullShare (step i X s).sd2 ∗ owns (c : Thread nD τ) arg17 fullShare (step i X s).sq2 ∗ owns (c : Thread nD τ) arg18 fullShare (step i X s).sh2 ∗ owns (c : Thread nD τ) arg19 fullShare (step i X s).sq3 ∗ owns (c : Thread nD τ) arg20 fullShare (step i X s).a1 ∗ owns (c : Thread nD τ) arg21 fullShare (step i X s).c1 ∗ owns (c : Thread nD τ) arg22 fullShare (step i X s).w1 ∗ owns (c : Thread nD τ) arg23 fullShare (step i X s).c2 ∗ owns (c : Thread nD τ) arg24 fullShare (step i X s).mx) -∗ K ⟨⟩))
          ⊢ wp frame (wpE (defs₀ (F := F)) Variants.none c none) E (cc1__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    simp only [cc1__mlp_kernel_eq_skeleton]; unfold cc1__mlp_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24
    rcases hi with ⟨h1, h2, h3, h4, h5⟩ | ⟨h1, h2, h3, h4, h5⟩ | ⟨h1, h2, h3, h4, h5⟩ | ⟨h1, h2, h3, h4, h5⟩ | ⟨h1, h2, h3, h4, h5⟩
    all_goals

      sl_exec (disch := first | sl_exact h1 | sl_exact h2 | sl_exact h3 | sl_exact h4 | sl_exact h5)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; swap; · iexact H15
        ipureintro
        first | rw [result, if_pos h5] | rw [result, if_neg h5]
        first
          | exact harg15.read_unread _
          | first | simp only [step, if_neg h3, if_neg h2] | simp only [step, if_neg h3, if_pos h2] | simp only [step, if_pos h3, if_neg h1] | simp only [step, if_pos h3, if_pos h1]
            refine (View.read_writes_full _ _ _ _ _).trans ?_
            frame_out
            refine congrArg (fun x => k1_pay11 _ _ (k1_pay64 _ x)) ((read_rows arg24.view _ i (k1_off1_inb i h4) _ _ _ _).trans ?_)
            rw [harg24.read_unread]; rfl
      isplitl [H16]
      · iexists _; isplitr; swap; · iexact H16
        ipureintro
        first | simp only [step, if_neg h3, if_neg h2] | simp only [step, if_neg h3, if_pos h2] | simp only [step, if_pos h3, if_neg h1] | simp only [step, if_pos h3, if_pos h1]
        first
          | exact harg16.read_unread _
          | refine (View.read_writes_full _ _ _ _ _).trans ?_
            (try frame_out); rfl
      isplitl [H17]
      · iexists _; isplitr; swap; · iexact H17
        ipureintro
        first | simp only [step, if_neg h3, if_neg h2] | simp only [step, if_neg h3, if_pos h2] | simp only [step, if_pos h3, if_neg h1] | simp only [step, if_pos h3, if_pos h1]
        first
          | exact harg17.read_unread _
          | refine (View.read_writes_full _ _ _ _ _).trans ?_
            (try frame_out); rfl
      isplitl [H18]
      · iexists _; isplitr; swap; · iexact H18
        ipureintro
        first | simp only [step, if_neg h3, if_neg h2] | simp only [step, if_neg h3, if_pos h2] | simp only [step, if_pos h3, if_neg h1] | simp only [step, if_pos h3, if_pos h1]
        first
          | exact harg18.read_unread _
          | refine (View.read_writes_full _ _ _ _ _).trans ?_
            (try frame_out); rfl
      isplitl [H19]
      · iexists _; isplitr; swap; · iexact H19
        ipureintro
        first | simp only [step, if_neg h3, if_neg h2] | simp only [step, if_neg h3, if_pos h2] | simp only [step, if_pos h3, if_neg h1] | simp only [step, if_pos h3, if_pos h1]
        first
          | exact harg19.read_unread _
          | refine (View.read_writes_full _ _ _ _ _).trans ?_
            (try frame_out); rfl
      isplitl [H20]
      · iexists _; isplitr; swap; · iexact H20
        ipureintro
        first | simp only [step, if_neg h3, if_neg h2] | simp only [step, if_neg h3, if_pos h2] | simp only [step, if_pos h3, if_neg h1] | simp only [step, if_pos h3, if_pos h1]
        first
          | exact harg20.read_unread _
          | refine (View.read_writes_full _ _ _ _ _).trans ?_
            (try frame_out); rfl
      isplitl [H21]
      · iexists _; isplitr; swap; · iexact H21
        ipureintro
        first | simp only [step, if_neg h3, if_neg h2] | simp only [step, if_neg h3, if_pos h2] | simp only [step, if_pos h3, if_neg h1] | simp only [step, if_pos h3, if_pos h1]
        first
          | exact harg21.read_unread _
          | refine (View.read_writes_full _ _ _ _ _).trans ?_
            (try frame_out); rfl
      isplitl [H22]
      · iexists _; isplitr; swap; · iexact H22
        ipureintro
        first | simp only [step, if_neg h3, if_neg h2] | simp only [step, if_neg h3, if_pos h2] | simp only [step, if_pos h3, if_neg h1] | simp only [step, if_pos h3, if_pos h1]
        first
          | exact harg22.read_unread _
          | refine (View.read_writes_full _ _ _ _ _).trans ?_
            (try frame_out); rfl
      isplitl [H23]
      · iexists _; isplitr; swap; · iexact H23
        ipureintro
        first | simp only [step, if_neg h3, if_neg h2] | simp only [step, if_neg h3, if_pos h2] | simp only [step, if_pos h3, if_neg h1] | simp only [step, if_pos h3, if_pos h1]
        first
          | exact harg23.read_unread _
          | refine (View.read_writes_full _ _ _ _ _).trans ?_
            (try frame_out); rfl
      iexists _; isplitr; swap; · iexact H24
      ipureintro
      first | simp only [step, if_neg h3, if_neg h2] | simp only [step, if_neg h3, if_pos h2] | simp only [step, if_pos h3, if_neg h1] | simp only [step, if_pos h3, if_pos h1]
      first
        | exact harg24.read_unread _
        | frame_out
          refine (read_rows arg24.view _ i (k1_off1_inb i h4) _ _ _ _).trans ?_
          rw [harg24.read_unread]; rfl

end Cert.KernelIdeal.Mlp

end
-- ==== Proof.KernelIdeal.MlpRegion.lean ====
module

public import proofs.«01_k».proof.Proof.KernelIdeal.MlpBody
public import Idealize.ShloMosaic.Lib.Pipeline.Frame

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point does what -/

theorem coords0 (t : Fin cfg1.N) : (grid1.coords t 0).val = t.val / 4 % 2 := Pipeline.Grid.coords_val t 0 (by decide) rfl
theorem coords1 (t : Fin cfg1.N) : (grid1.coords t 1).val = t.val % 4 :=
  (Pipeline.Grid.coords_val t 1 (by decide) rfl : (grid1.coords t 1).val = t.val / 1 % 4).trans (by rw [Nat.div_one])

theorem lt8 (t : Fin cfg1.N) : t.val < 8 := lt_of_lt_of_eq t.isLt (show cfg1.N = 8 from N_1)

theorem first_iff (t : Fin cfg1.N) : isFirst (grid1.coords t) ↔ t.val = 0 := by
  have h8 := lt8 t
  have h : isFirst (grid1.coords t) ↔ t.val / 4 % 2 = 0 ∧ t.val % 4 = 0 := by
    simp only [isFirst, coords0, coords1]; word_cmp
  refine h.trans ?_; omega
theorem fold_iff (t : Fin cfg1.N) : isFold (grid1.coords t) ↔ t.val = 4 := by
  have h8 := lt8 t
  have h : isFold (grid1.coords t) ↔ t.val / 4 % 2 = 1 ∧ t.val % 4 = 0 := by
    simp only [isFold, coords0, coords1]; word_cmp
  refine h.trans ?_; omega
theorem pass0_iff (t : Fin cfg1.N) : isPass0 (grid1.coords t) ↔ t.val < 4 := by
  have h8 := lt8 t
  have h : isPass0 (grid1.coords t) ↔ t.val / 4 % 2 = 0 := by
    simp only [isPass0, coords0, coords1]; word_cmp
  refine h.trans ?_; omega
theorem pass1_iff (t : Fin cfg1.N) : isPass1 (grid1.coords t) ↔ 4 ≤ t.val := by
  have h8 := lt8 t
  have h : isPass1 (grid1.coords t) ↔ t.val / 4 % 2 = 1 := by
    simp only [isPass1, k1_cond4, coords0, coords1]; word_cmp
  refine h.trans ?_; omega
theorem last_iff (t : Fin cfg1.N) : isLast (grid1.coords t) ↔ t.val = 7 := by
  have h8 := lt8 t
  have h : isLast (grid1.coords t) ↔ t.val / 4 % 2 = 1 ∧ t.val % 4 = 3 := by
    simp only [isLast, k1_cond5, coords0, coords1]; word_cmp
  refine h.trans ?_; omega

/-- Every point is of one of the five kinds. -/
theorem isCase (t : Fin cfg1.N) : IsCase (grid1.coords t) := by
  unfold IsCase
  rw [first_iff, fold_iff, pass0_iff, pass1_iff, last_iff]
  have := lt8 t
  omega

/-! ## The state from point to point -/

variable (V : Dev nD → Valuation τ sig (Elt F))

/-- The block of window `w`'s array that point `t` reads or writes. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What point `t` reads. -/
def ins (c : Dev nD) (t : Fin cfg1.N) : Ins F where
  d := iblk V c 0 t
  st := iblk V c 1 t
  b0 := iblk V c 2 t
  g0 := iblk V c 3 t
  e0 := iblk V c 4 t
  W1 := iblk V c 5 t
  b1 := iblk V c 6 t
  g1 := iblk V c 7 t
  e1 := iblk V c 8 t
  W2 := iblk V c 9 t
  b2 := iblk V c 10 t
  g2 := iblk V c 11 t
  e2 := iblk V c 12 t

/-- The state after `n` points, from the state before the first. -/
def runTo (c : Dev nD) (s : St F) : ℕ → St F
  | 0 => s
  | n + 1 => if h : n < cfg1.N then step (grid1.coords ⟨n, h⟩) (ins V c ⟨n, h⟩) (runTo c s n) else runTo c s n

theorem runTo_succ (c : Dev nD) (s : St F) (t : Fin cfg1.N) :
    runTo V c s (t.val + 1) = step (grid1.coords t) (ins V c t) (runTo V c s t.val) :=
  dif_pos t.isLt

/-- A state to start from: what the scratch holds at first does not matter. -/
def st0 : St F where
  sd2 := constant S32x1 FTy.f32 0#32
  sq2 := constant S32x1 FTy.f32 0#32
  sh2 := constant S32x1 FTy.f32 0#32
  sq3 := constant S64x1 FTy.f32 0#32
  a1 := constant S32x1 FTy.f32 0#32
  c1 := constant S32x1 FTy.f32 0#32
  w1 := constant S32x32 FTy.f32 0#32
  c2 := constant S32x1 FTy.f32 0#32
  mx := constant S16x64x1 FTy.f32 0#32

/-- A row put in over two arrays that agree off the row leaves two arrays that agree. -/
theorem put_row_congr (x x' : Vec F S16x64x1 .f32) (r : ℕ) (w : Vec F S1x64x1 .f32) (j : S16x64x1.Idx) (h : (j 0).val ≠ r → x j = x' j) :
    VecWindow.put (s := S16x64x1) x ![r, 0, 0] ![1, 64, 1] w j = VecWindow.put (s := S16x64x1) x' ![r, 0, 0] ![1, 64, 1] w j := by
  unfold VecWindow.put
  by_cases hj : ∀ a, (![r, 0, 0] : Fin 3 → ℕ) a ≤ (j a).val ∧ (j a).val < (![r, 0, 0] : Fin 3 → ℕ) a + (![1, 64, 1] : Fin 3 → ℕ) a
  · rw [dif_pos hj, dif_pos hj]
  · rw [dif_neg hj, dif_neg hj]
    refine h fun e => hj fun a => ?_
    have h1 : (j 1).val < 64 := (j 1).isLt
    have h2 : (j 2).val < 1 := (j 2).isLt
    fin_cases a
    · show r ≤ (j 0).val ∧ (j 0).val < r + 1; omega
    · show 0 ≤ (j 1).val ∧ (j 1).val < 0 + 64; omega
    · show 0 ≤ (j 2).val ∧ (j 2).val < 0 + 1; omega

/-- Two states agree in what has been written by the first `n` points. -/
structure Agree (n : ℕ) (s s' : St F) : Prop where
  early : 1 ≤ n → s.sd2 = s'.sd2 ∧ s.sq2 = s'.sq2 ∧ s.sh2 = s'.sh2 ∧ s.sq3 = s'.sq3 ∧ s.a1 = s'.a1 ∧ s.c1 = s'.c1
  late : 5 ≤ n → s.w1 = s'.w1 ∧ s.c2 = s'.c2
  rows : ∀ j : S16x64x1.Idx, (j 0).val < 4 * (n - 4) → s.mx j = s'.mx j

theorem agree_step (t : Fin cfg1.N) (X : Ins F) (s s' : St F) (h : Agree t.val s s') :
    Agree (t.val + 1) (step (grid1.coords t) X s) (step (grid1.coords t) X s') := by
  by_cases hp : t.val < 4
  · have hp' := (pass0_iff t).mpr hp
    by_cases hf : t.val = 0
    · have hf' := (first_iff t).mpr hf
      simp only [step, if_pos hp', if_pos hf']
      exact ⟨fun _ => ⟨rfl, rfl, rfl, rfl, rfl, rfl⟩, fun _ => by omega, fun j hj => by omega⟩
    · have hf' : ¬isFirst (grid1.coords t) := fun x => hf ((first_iff t).mp x)
      obtain ⟨e1, e2, e3, e4, e5, e6⟩ := h.early (by omega)
      simp only [step, if_pos hp', if_neg hf', pass0, e1, e2, e3, e4, e5, e6]
      exact ⟨fun _ => ⟨rfl, rfl, rfl, rfl, rfl, rfl⟩, fun _ => by omega, fun j hj => by omega⟩
  · have hp' : ¬isPass0 (grid1.coords t) := fun x => hp ((pass0_iff t).mp x)
    obtain ⟨e1, e2, e3, e4, e5, e6⟩ := h.early (by omega)
    have hc : (grid1.coords t 1).val = t.val - 4 := by rw [coords1]; have := lt8 t; omega
    by_cases hf : t.val = 4
    · have hf' := (fold_iff t).mpr hf
      simp only [step, if_neg hp', if_pos hf', pass1, fold, putRows, hc, e1, e2, e3, e4, e5, e6]
      refine ⟨fun _ => ⟨rfl, rfl, rfl, rfl, rfl, rfl⟩, fun _ => ⟨rfl, rfl⟩, fun j hj => ?_⟩
      refine put_row_congr _ _ _ _ j fun n3 => put_row_congr _ _ _ _ j fun n2 => put_row_congr _ _ _ _ j fun n1 => put_row_congr _ _ _ _ j fun n0 => h.rows j (by omega)
    · have hf' : ¬isFold (grid1.coords t) := fun x => hf ((fold_iff t).mp x)
      obtain ⟨e7, e8⟩ := h.late (by omega)
      simp only [step, if_neg hp', if_neg hf', pass1, putRows, hc, e1, e2, e3, e4, e5, e6, e7, e8]
      refine ⟨fun _ => ⟨rfl, rfl, rfl, rfl, rfl, rfl⟩, fun _ => ⟨rfl, rfl⟩, fun j hj => ?_⟩
      refine put_row_congr _ _ _ _ j fun n3 => put_row_congr _ _ _ _ j fun n2 => put_row_congr _ _ _ _ j fun n1 => put_row_congr _ _ _ _ j fun n0 => h.rows j (by omega)

theorem agree_runTo (c : Dev nD) (s s' : St F) (n : ℕ) (hn : n ≤ cfg1.N) : Agree n (runTo V c s n) (runTo V c s' n) := by
  induction n with
  | zero => exact ⟨fun h => by omega, fun h => by omega, fun j hj => by omega⟩
  | succ n ih =>
    have hn' : n < cfg1.N := hn
    rw [runTo_succ V c s ⟨n, hn'⟩, runTo_succ V c s' ⟨n, hn'⟩]
    exact agree_step ⟨n, hn'⟩ _ _ _ (ih (Nat.le_of_lt hn'))

/-- The result does not depend on what the scratch held at first. -/
theorem made_indep (c : Dev nD) (t : Fin cfg1.N) (h : t.val = 7) (s s' : St F) :
    made (ins V c t) (runTo V c s (t.val + 1)) = made (ins V c t) (runTo V c s' (t.val + 1)) := by
  have hA := agree_runTo V c s s' (t.val + 1) t.isLt
  obtain ⟨e1, e2, e3, e4, e5, e6⟩ := hA.early (by omega)
  have hm : (runTo V c s (t.val + 1)).mx = (runTo V c s' (t.val + 1)).mx := funext fun j => hA.rows j (by
    have h0 : (j 0).val < 16 := (j 0).isLt
    omega)
  simp only [made, e3, e4, hm]

/-! ## The proof data -/

/-- The scratch buffers at a state. -/
def scratchAt (c : Dev nD) (s : St F) : sProp 𝕄 :=
  iprop(owns (c : Thread nD τ) (Memref.whole cc1_scratch0) fullShare s.sd2
    ∗ owns (c : Thread nD τ) (Memref.whole cc1_scratch1) fullShare s.sq2
    ∗ owns (c : Thread nD τ) (Memref.whole cc1_scratch2) fullShare s.sh2
    ∗ owns (c : Thread nD τ) (Memref.whole cc1_scratch3) fullShare s.sq3
    ∗ owns (c : Thread nD τ) (Memref.whole cc1_scratch4) fullShare s.a1
    ∗ owns (c : Thread nD τ) (Memref.whole cc1_scratch5) fullShare s.c1
    ∗ owns (c : Thread nD τ) (Memref.whole cc1_scratch6) fullShare s.w1
    ∗ owns (c : Thread nD τ) (Memref.whole cc1_scratch7) fullShare s.c2
    ∗ owns (c : Thread nD τ) (Memref.whole cc1_scratch8) fullShare s.mx)

/-- The buffers of the call that are no scratch of its own and no staging buffer. -/
abbrev others (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7, cc1_scratch8]

/-- What the region holds between points: the scratch buffers at what the points so far made of some contents, the other
    scoped buffers, and the generator register. -/
def Inv (c : Dev nD) (n : ℕ) : sProp 𝕄 :=
  iprop((∃ s : St F, scratchAt c (runTo V c s n)) ∗ others c ∗ ∃ r, prngReg c r)

/-- The proof data of the second call on core `c`. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => made (ins V c t) (runTo V c st0 (t.val + 1))
  Φ t := Inv V c t.val
  q _ := fullShare
  owed _ := 0

theorem A_eq (c : Dev nD) (w : Fin cfg1.W) : (dat V c).A w = V c (Proc.devRef .tc (Pipeline.arrRef spec1 w)) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = iblk V c 8 t := by dsimp only [dat]
theorem after9 (c : Dev nD) (t : Fin cfg1.N) : (dat V c).after 9 t = iblk V c 9 t := by dsimp only [dat]
theorem after10 (c : Dev nD) (t : Fin cfg1.N) : (dat V c).after 10 t = iblk V c 10 t := by dsimp only [dat]
theorem after11 (c : Dev nD) (t : Fin cfg1.N) : (dat V c).after 11 t = iblk V c 11 t := by dsimp only [dat]
theorem after12 (c : Dev nD) (t : Fin cfg1.N) : (dat V c).after 12 t = iblk V c 12 t := by dsimp only [dat]
theorem after13 (c : Dev nD) (t : Fin cfg1.N) : (dat V c).after 13 t = made (ins V c t) (runTo V c st0 (t.val + 1)) := by dsimp only [dat]

theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg1.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg1.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg1.N) (d) : (dat V c).before 8 t d = iblk V c 8 t :=
  ((dat V c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg1.N) (d) : (dat V c).before 9 t d = iblk V c 9 t :=
  ((dat V c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg1.N) (d) : (dat V c).before 10 t d = iblk V c 10 t :=
  ((dat V c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg1.N) (d) : (dat V c).before 11 t d = iblk V c 11 t :=
  ((dat V c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg1.N) (d) : (dat V c).before 12 t d = iblk V c 12 t :=
  ((dat V c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)

/-- What a point that is not idle for window `w` leaves there. -/
theorem leaves_live (c : Dev nD) (w : Fin cfg1.W) (t : Fin cfg1.N) (hi : cfg1.idle w (cfg1.grid.coords t) = false) :
    (dat V c).leavesExact w t = (owns (c : Thread nD τ) ((cfg1.win w).stage (cfg1.slots t w)) fullShare ((dat V c).after w t) : sProp 𝕄) := by
  unfold Dat.leavesExact; rw [hi]

/-- What the body leaves in the result's buffer is what the proof data ask of it. -/
theorem leaves13 (c : Dev nD) (t : Fin cfg1.N) (s : St F) (d13) :
    owns (c : Thread nD τ) (st1_13 t) fullShare (result (grid1.coords t) (ins V c t) (runTo V c s t.val) ((dat V c).before 13 t d13))
      ⊢ ((dat V c).leavesExact 13 t : sProp 𝕄) := by
  unfold result
  by_cases h : isLast (grid1.coords t)
  · have hi : cfg1.idle 13 (grid1.coords t) = false := by
      show (!(k1_cond5 (grid1.coords t) == 1#1)) = false
      rw [show k1_cond5 (grid1.coords t) = 1#1 from h]; rfl
    rw [if_pos h, ← runTo_succ, made_indep V c t ((last_iff t).mp h) s st0, leaves_live V c 13 t hi, after13]
  · rw [if_neg h]
    have hi : cfg1.idle 13 (grid1.coords t) = true := by
      show (!(k1_cond5 (grid1.coords t) == 1#1)) = true
      simpa using h
    have hf : (cfg1.win 13).flush t = false := by
      rw [Bool.eq_false_iff]; intro hf
      have h7 := (flush1_13 t).mp hf
      have h8 := lt8 t
      exact h ((last_iff t).mpr (by omega))
    rw [(dat V c).leavesExact_idle 13 t hi hf]
    iintro H; iexists d13; iexact H

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t ∗ (dat V c).leavesExact 11 t ∗ (dat V c).leavesExact 12 t ∗ (dat V c).leavesExact 13 t)

set_option maxHeartbeats 2000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, before9, before10, before11, before12]
  rw [show (dat V c).owesAt () t.succ = (dat V c).owesAt () t.castSucc from rfl,
    show (dat V c).Φ t.castSucc = Inv V c t.val from rfl, show (dat V c).Φ t.succ = Inv V c (t.val + 1) from rfl]
  rw [leaves_live V c 0 t rfl, after0,
    leaves_live V c 1 t rfl, after1,
    leaves_live V c 2 t rfl, after2,
    leaves_live V c 3 t rfl, after3,
    leaves_live V c 4 t rfl, after4,
    leaves_live V c 5 t rfl, after5,
    leaves_live V c 6 t rfl, after6,
    leaves_live V c 7 t rfl, after7,
    leaves_live V c 8 t rfl, after8,
    leaves_live V c 9 t rfl, after9,
    leaves_live V c 10 t rfl, after10,
    leaves_live V c 11 t rfl, after11,
    leaves_live V c 12 t rfl, after12]
  unfold Inv
  iintro ⟨⟨⟨%s, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  unfold scratchAt
  icases HS with ⟨HS0, HS1, HS2, HS3, HS4, HS5, HS6, HS7, HS8⟩
  iapply (run c (grid1.coords t) _ _ _ _ _ _ _ _ _ _ _ _ _ _ _ _ _ _ _ _ _ _ _ _ _ _ _ _ _ _ _ _ _ _ _ _ _ _ _ _ _ _ _ _ _ _ (ins V c t) (runTo V c s t.val) ((dat V c).before 13 t d13) (isCase t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, HS0, HS1, HS2, HS3, HS4, HS5, HS6, HS7, HS8⟩
  isplitl [HS0 HS1 HS2 HS3 HS4 HS5 HS6 HS7 HS8 Hr Hg]
  · isplitl [HS0 HS1 HS2 HS3 HS4 HS5 HS6 HS7 HS8]
    · iexists s
      rw [runTo_succ]
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hr] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (leaves13 V c t s d13); iexact H13

/-- The body table's row at a point is the body at that point. -/
theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- The scoped buffers that are not staging buffers, with the call's own scratch listed. -/
theorem scopedRest_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f) ∗ (∃ f : Buf (Elt F) ((c : Thread nD τ).loc cc1_scratch8), ((c : Thread nD τ).loc cc1_scratch8) ↦{fullShare} f)) ∗ others c) :=
  Pipeline.scopedRest_split_of_list spec1 c [cc1_scratch0, cc1_scratch1, cc1_scratch2, cc1_scratch3, cc1_scratch4, cc1_scratch5, cc1_scratch6, cc1_scratch7, cc1_scratch8] (by decide) (by decide)

/-- The scoped buffers and the generator register give the invariant before the first point, -/
theorem hin (c : Dev nD) : iprop(Pipeline.scopedRest (Ix := Unit) (Name := ℕ) (U := UR sig nD τ) (Lvl := ℕ) (Val := Elt F) spec1 c ∗ ∃ r, prngReg c r) ⊢ ((dat V c).Φ 0 : sProp 𝕄) := by
  rw [show (dat V c).Φ 0 = Inv V c 0 from rfl, scopedRest_split]
  unfold Inv
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hr⟩, Hg⟩
  isplitl [H0 H1 H2 H3 H4 H5 H6 H7 H8]
  · iexists (⟨f0, f1, f2, f3, f4, f5, f6, f7, f8⟩ : St F)
    unfold scratchAt runTo
    simp only [owns_whole_eq]
    isplitl [H0]; · iexists f0; isplitr [H0]; · ipureintro; rfl
                    iexact H0
    isplitl [H1]; · iexists f1; isplitr [H1]; · ipureintro; rfl
                    iexact H1
    isplitl [H2]; · iexists f2; isplitr [H2]; · ipureintro; rfl
                    iexact H2
    isplitl [H3]; · iexists f3; isplitr [H3]; · ipureintro; rfl
                    iexact H3
    isplitl [H4]; · iexists f4; isplitr [H4]; · ipureintro; rfl
                    iexact H4
    isplitl [H5]; · iexists f5; isplitr [H5]; · ipureintro; rfl
                    iexact H5
    isplitl [H6]; · iexists f6; isplitr [H6]; · ipureintro; rfl
                    iexact H6
    isplitl [H7]; · iexists f7; isplitr [H7]; · ipureintro; rfl
                    iexact H7
    iexists f8; isplitr [H8]; · ipureintro; rfl
    iexact H8
  isplitl [Hr] <;> iassumption

/-- and the invariant after the last gives them back. -/
theorem hout (c : Dev nD) : ((dat V c).Φ (Fin.last cfg1.N) : sProp 𝕄) ⊢ iprop(Pipeline.scopedRest (Ix := Unit) (Name := ℕ) (U := UR sig nD τ) (Lvl := ℕ) (Val := Elt F) spec1 c ∗ ∃ r, prngReg c r) := by
  rw [show (dat V c).Φ (Fin.last cfg1.N) = Inv V c cfg1.N from rfl, scopedRest_split]
  unfold Inv scratchAt
  simp only [owns_whole_eq]
  iintro ⟨⟨%s, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩⟩, Hr, Hg⟩
  isplitr [Hg]
  · isplitr [Hr]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iexists _; iexact H8
    iexact Hr
  iexact Hg

end Cert.KernelIdeal.Mlp

end
-- ==== Proof.KernelIdeal.Whole.lean ====
module

public import proofs.«01_k».proof.Proof.KernelIdeal.PackRegion
public import proofs.«01_k».proof.Proof.KernelIdeal.MlpRegion
public import proofs.«01_k».proof.Proof.Gen.KernelIdeal.Regions
public import Idealize.ShloMosaic.Lib.Pipeline.RegionArraysS

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the parts of the program -/

/-- The unscoped buffers at launch. -/
def U0 (c : Dev nD) : Valuation τ sig (Elt F) := fun b => m (c, b)
/-- The unscoped buffers when the first call is entered. -/
def U1 (c : Dev nD) : Valuation τ sig (Elt F) := StableHlo.after hostOps0 (U0 m c)
/-- The unscoped buffers when the first call has ended. -/
def U2 (c : Dev nD) : Valuation τ sig (Elt F) := Pipeline.afterRegion (Pack.dat (U1 m) c) (U1 m c)
/-- The unscoped buffers when the second call is entered. -/
def U3 (c : Dev nD) : Valuation τ sig (Elt F) := StableHlo.after hostOps1 (U2 m c)
/-- The unscoped buffers when the second call has ended. -/
def U4 (c : Dev nD) : Valuation τ sig (Elt F) := Pipeline.afterRegion (Mlp.dat (U3 m) c) (U3 m c)
/-- The unscoped buffers at the end. -/
def U5 (c : Dev nD) : Valuation τ sig (Elt F) := StableHlo.after hostOps2 (U4 m c)

/-- A buffer that no part of the program writes is at the end as it was at launch. -/
theorem U5_kept (c : Dev nD) (r : Ref sig .tc) (h0 : r ∉ hostOps0_W) (h1 : r ∉ hostOps1_W) (h2 : r ∉ hostOps2_W)
    (h3 : ∀ w, Pipeline.arrRef spec0 w = r → (cfg0.win w).isOut = false) (h4 : ∀ w, Pipeline.arrRef spec1 w = r → (cfg1.win w).isOut = false) :
    U5 m c (Proc.devRef .tc r) = m ((c.tc : Thread nD τ).loc r) := by
  have e5 : U5 m c (Proc.devRef .tc r) = U4 m c (Proc.devRef .tc r) := StableHlo.after_of_writes_sub hostOps2 _ hostOps2_writes h2
  have e4 : U4 m c (Proc.devRef .tc r) = U3 m c (Proc.devRef .tc r) :=
    Pipeline.afterRegion_keeps (Mlp.dat (U3 m) c) (U3 m c) launch1.win.arr_inj (Mlp.A_eq (U3 m) c) r h4
  have e3 : U3 m c (Proc.devRef .tc r) = U2 m c (Proc.devRef .tc r) := StableHlo.after_of_writes_sub hostOps1 _ hostOps1_writes h1
  have e2 : U2 m c (Proc.devRef .tc r) = U1 m c (Proc.devRef .tc r) :=
    Pipeline.afterRegion_keeps (Pack.dat (U1 m) c) (U1 m c) launch0.win.arr_inj (Pack.A_eq (U1 m) c) r h3
  have e1 : U1 m c (Proc.devRef .tc r) = U0 m c (Proc.devRef .tc r) := StableHlo.after_of_writes_sub hostOps0 _ hostOps0_writes h0
  rw [e5, e4, e3, e2, e1]; rfl

/-! ## The parts of the program -/

/-- The proof data of the two calls. -/
def pdats : (p : Fin 2) → (c : Dev nD) → Dat τ (Elt F) Unit ℕ (UR sig nD τ) ℕ (cfgs p) c
  | 0, c => Pack.dat (U1 m) c
  | 1, c => Mlp.dat (U3 m) c

/-- Every cell of a TensorCore is at the one level. -/
def L : GSem nD τ sig → Finset Unit := fun g => if g.1.2 = .tc then {()} else ∅
abbrev lv : GSem nD τ sig → Unit → ℕ := fun _ _ => 0

theorem mem_L (c : Dev nD) (x : SemLoc sig) : () ∈ L ((c : Thread nD τ), x) := by
  unfold L; rw [if_pos rfl]; exact Finset.mem_singleton_self _

theorem L_off (g : GSem nD τ sig) (h : g.1.2 ≠ .tc) : L g = ∅ := if_neg h

theorem cut (p : Fin 2) : Pipeline.LevelCut (pcfgs (F := F)) adm () L lv p (fun _ => 0) fun _ => 0 where
  hι c w s := mem_L c _
  hιb c w s := le_rfl
  hD c g i h := absurd h (lt_irrefl 0)

/-- What a core holds beside the buffers between the parts. -/
abbrev rest (c : Dev nD) : sProp 𝕄 :=
  iprop((∃ W, owes (c : Thread nD τ) (0 : CellTallies nD τ sig Unit) W) ∗ (∃ r, prngReg c r) ∗ emp)

def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) rest
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) rest
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) rest

set_option backward.isDefEq.respectTransparency.types false in
/-- The first call. -/
def call0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Pack.body_obligation (U1 m) c).loose) (fun _ _ => rfl) (fun _ => rfl) (fun c w => (Pack.dat (U1 m) c).share_full (fun _ => rfl) w)
    (Pack.hin (U1 m)) (Pack.hout (U1 m)) (fun _ => 0) (cut 0) (fun _ => iprop(emp)) (U1 m) (fun c w => Pack.A_eq (U1 m) c w)

set_option backward.isDefEq.respectTransparency.types false in
/-- The second call. -/
def call1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Mlp.body_obligation (U3 m) c).loose) (fun _ _ => rfl) (fun _ => rfl) (fun c w => (Mlp.dat (U3 m) c).share_full (fun _ => rfl) w)
    (Mlp.hin (U3 m)) (Mlp.hout (U3 m)) (fun _ => 0) (cut 1) (fun _ => iprop(emp)) (U3 m) (fun c w => Mlp.A_eq (U3 m) c w)

/-- The parts in order. -/
abbrev parts : List (Seg (pcfgs (F := F)) adm (pdats m) () defs₀ Variants.none L lv) :=
  [.host (host0 m), .region (call0 m), .host (host1 m), .region (call1 m), .host (host2 m)]

theorem pre0 (c : Dev nD) : iprop(StableHlo.held (c : Thread nD τ) (Pipeline.ucRefs τ sig) (U1 m c) ∗ rest c) ⊢ (call0 m).pre c := by
  unfold call0
  apply RegionSeg.ofHeldIn_pre
  exact Pipeline.arrRefs_sub_ucRefs _ launch0.win.to₀.arr_unscoped
theorem post0 (c : Dev nD) : (call0 m).post c ⊢ iprop(StableHlo.held (c : Thread nD τ) (Pipeline.ucRefs τ sig) (U2 m c) ∗ rest c) :=
  RegionSeg.ofHeldIn_post (Pipeline.arrRefs_sub_ucRefs _ launch0.win.to₀.arr_unscoped) c
theorem pre1 (c : Dev nD) : iprop(StableHlo.held (c : Thread nD τ) (Pipeline.ucRefs τ sig) (U3 m c) ∗ rest c) ⊢ (call1 m).pre c := by
  unfold call1
  apply RegionSeg.ofHeldIn_pre
  exact Pipeline.arrRefs_sub_ucRefs _ launch1.win.to₀.arr_unscoped
theorem post1 (c : Dev nD) : (call1 m).post c ⊢ iprop(StableHlo.held (c : Thread nD τ) (Pipeline.ucRefs τ sig) (U4 m c) ∗ rest c) :=
  RegionSeg.ofHeldIn_post (Pipeline.arrRefs_sub_ucRefs _ launch1.win.to₀.arr_unscoped) c

/-! ## The run -/

set_option backward.isDefEq.respectTransparency.types false in
/-- Every run from a memory with zero counters ends, every buffer of the program's own then holding what `U5` says and every
    counter being zero. -/
theorem run : θ_run defs (onTc (τ := τ) (main (F := F))) ⟨m, fun _ => 0, ρ⟩ (fun r =>
    (∀ c : Dev nD, ∀ b ∈ Pipeline.ucRefs τ sig, r.2.mem (c, b) = U5 m c b) ∧ r.2.sem = fun _ => 0) := by
  refine Pipeline.θ_run_regions_kit_dev_sems (pcfgs (F := F)) adm (pdats m) () cellOf_inj
    (emb₁ : Emb (UR sig nD τ) (MT nD τ sig Unit (Elt F) ℕ (UR sig nD τ) ℕ)) defs₀ Variants.none L lv m ρ main (fun _ => parts m)
    (fun c Q => by
      rewrite [main_chain c, Seg.run_eq_chain,
        show (parts m).map Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [parts, Seg.pipes_host, Seg.pipes_region, Seg.pipes_nil]; decide) 0 L_off
    (fun _ => iprop(emp)) (initOf (Pipeline.cells cfgs cellOf_inj) (Pipeline.launchToks cfgs cellOf_inj)) ?_
    (T₀ := fun c => iprop(StableHlo.held (c : Thread nD τ) (Pipeline.ucRefs τ sig) (U0 m c) ∗ rest c))
    (Tₙ := fun c => StableHlo.held (c : Thread nD τ) (Pipeline.ucRefs τ sig) (U5 m c))
    (hch := fun c => ⟨.rfl, pre0 m c, post0 m c, pre1 m c, post1 m c, ?_⟩)
    (hinit := ?_) (QY := fun c s => ∀ b ∈ Pipeline.ucRefs τ sig, s.mem (c, b) = U5 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U5 m c) ∗ rest c) ⊢ _
    iintro ⟨Hh, HO, -, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (U0 m c)
      from Pipeline.unscopedBufs_held (Ix := Unit) (Name := ℕ) (U := UR sig nD τ) (Lvl := ℕ) c (U0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    imodintro; iexact Hr

theorem mem_uc (r : Ref sig .tc) (h : ¬(Proc.devRef .tc r : DevRef τ sig).isScoped) : (Proc.devRef .tc r : DevRef τ sig) ∈ Pipeline.ucRefs τ sig :=
  Finset.mem_filter.mpr ⟨StableHlo.devRef_mem_tcRefs r, h⟩

/-- An argument is at the end as it was at launch, given what holds at the end of every run. -/
theorem kept {s : MemSt nD τ sig (Elt F)} (c : Dev nD) (h : ∀ b ∈ Pipeline.ucRefs τ sig, s.mem (c, b) = U5 m c b) (r : Ref sig .tc)
    (hu : ¬(Proc.devRef .tc r : DevRef τ sig).isScoped) (h0 : r ∉ hostOps0_W) (h1 : r ∉ hostOps1_W) (h2 : r ∉ hostOps2_W)
    (h3 : ∀ w, Pipeline.arrRef spec0 w = r → (cfg0.win w).isOut = false) (h4 : ∀ w, Pipeline.arrRef spec1 w = r → (cfg1.win w).isOut = false) :
    s.mem ((c.tc : Thread nD τ).loc r) = m ((c.tc : Thread nD τ).loc r) :=
  (h _ (mem_uc r hu)).trans (U5_kept m c r h0 h1 h2 h3 h4)

/-- Every run ends with the two results at what `U5` says, the arguments as they were, and every counter at zero. -/
theorem run_args : θ_run defs (onTc (τ := τ) (main (F := F))) ⟨m, fun _ => 0, ρ⟩ (fun r =>
    (∀ c : Dev nD, (∀ b ∈ Pipeline.ucRefs τ sig, r.2.mem (c, b) = U5 m c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) := by
  refine θ_run_mono (run m ρ) fun r h => ⟨fun c => ?_, h.2⟩
  have hk := fun b hu => kept m c (h.1 c) b hu
  exact ⟨h.1 c, hk main_arg0 (by decide) (by decide) (by decide) (by decide) (by decide) (by decide),
    hk main_arg1 (by decide) (by decide) (by decide) (by decide) (by decide) (by decide),
    hk main_arg2 (by decide) (by decide) (by decide) (by decide) (by decide) (by decide),
    hk main_arg3 (by decide) (by decide) (by decide) (by decide) (by decide) (by decide),
    hk main_arg4 (by decide) (by decide) (by decide) (by decide) (by decide) (by decide),
    hk main_arg5 (by decide) (by decide) (by decide) (by decide) (by decide) (by decide),
    hk main_arg6 (by decide) (by decide) (by decide) (by decide) (by decide) (by decide),
    hk main_arg7 (by decide) (by decide) (by decide) (by decide) (by decide) (by decide),
    hk main_arg8 (by decide) (by decide) (by decide) (by decide) (by decide) (by decide),
    hk main_arg9 (by decide) (by decide) (by decide) (by decide) (by decide) (by decide),
    hk main_arg10 (by decide) (by decide) (by decide) (by decide) (by decide) (by decide),
    hk main_arg11 (by decide) (by decide) (by decide) (by decide) (by decide) (by decide),
    hk main_arg12 (by decide) (by decide) (by decide) (by decide) (by decide) (by decide),
    hk main_arg13 (by decide) (by decide) (by decide) (by decide) (by decide) (by decide)⟩

end Cert.KernelIdeal.Whole

end
-- ==== Proof.Value.Maths.lean ====
/- The mathematics that the two programs share, over the reals: one layer is a linear map, a bias, a normalisation by the
   mean and the variance of each channel over all samples, and a relu. The kernel takes the mean and the variance from the
   sum and the sum of squares of the linear map's result, the bias aside, and applies the normalisation as one scale and
   one shift; the reference subtracts the mean first and averages the squares of what is left. -/
module

public import Mathlib.Analysis.SpecialFunctions.Pow.Real
public import Mathlib.Data.EReal.Operations
public import Mathlib.Data.EReal.Inv

@[expose] public section

noncomputable section

namespace Cert.Maths

open Finset

/-- How many samples there are: 16 batches of 32768 points. -/
def cnt : ℝ := 524288

theorem cnt_pos : 0 < cnt := by unfold cnt; norm_num
theorem cnt_ne : cnt ≠ 0 := cnt_pos.ne'

/-- What the programs add to a variance before they take its root. -/
def eps : ℝ := 10995116 / 2 ^ 40

theorem eps_pos : 0 < eps := by unfold eps; norm_num

/-- The sum over all samples. -/
def total (f : ℕ → Fin 32768 → ℝ) : ℝ := ∑ b ∈ range 16, ∑ n, f b n

theorem total_add (f g : ℕ → Fin 32768 → ℝ) : total (fun b n => f b n + g b n) = total f + total g := by
  simp only [total, sum_add_distrib]

theorem total_mul (c : ℝ) (f : ℕ → Fin 32768 → ℝ) : total (fun b n => c * f b n) = c * total f := by
  simp only [total, mul_sum]

theorem total_const (c : ℝ) : total (fun _ _ => c) = cnt * c := by
  simp only [total, cnt, sum_const, card_range, card_univ, Fintype.card_fin, nsmul_eq_mul]
  push_cast; ring

theorem total_sum {ι : Type} (s : Finset ι) (f : ι → ℕ → Fin 32768 → ℝ) :
    total (fun b n => ∑ k ∈ s, f k b n) = ∑ k ∈ s, total (f k) := by
  simp only [total]
  exact (sum_congr rfl fun b _ => sum_comm).trans sum_comm

theorem total_nonneg (f : ℕ → Fin 32768 → ℝ) (h : ∀ b n, 0 ≤ f b n) : 0 ≤ total f :=
  sum_nonneg fun b _ => sum_nonneg fun n _ => h b n

/-- The mean of a channel, from the sum of the linear map's results and the bias. -/
def mean (S β : ℝ) : ℝ := (S + cnt * β) / cnt

/-- The variance of a channel, as the kernel makes it from the sum and the sum of squares. -/
def var (S Q β : ℝ) : ℝ := (Q + 2 * β * S + cnt * β * β) / cnt - mean S β * mean S β

/-- The scale that the normalisation amounts to. -/
def scale (S Q β γ : ℝ) : ℝ := γ * (Real.sqrt (var S Q β + eps))⁻¹

/-- The shift that the normalisation amounts to. -/
def shift (S Q β γ η : ℝ) : ℝ := scale S Q β γ * (β - mean S β) + η

/-- The mean of the biased results is the sum of the results and of the biases, over the number of samples. -/
theorem mean_eq (d : ℕ → Fin 32768 → ℝ) (β : ℝ) : total (fun b n => d b n + β) / cnt = mean (total d) β := by
  rw [total_add, total_const, mean]

/-- The mean of the squared deviations is the mean square less the squared mean. -/
theorem var_eq (d : ℕ → Fin 32768 → ℝ) (β : ℝ) :
    total (fun b n => (d b n + β - mean (total d) β) * (d b n + β - mean (total d) β)) / cnt
      = var (total d) (total fun b n => d b n * d b n) β := by
  have h : (fun (b : ℕ) (n : Fin 32768) => (d b n + β - mean (total d) β) * (d b n + β - mean (total d) β))
      = fun b n => (d b n * d b n + (2 * (β - mean (total d) β)) * d b n)
          + (β - mean (total d) β) * (β - mean (total d) β) := by
    funext b n; ring
  rw [h, total_add, total_add, total_mul, total_const, var]
  have hc := cnt_ne
  have hm : total d = cnt * mean (total d) β - cnt * β := by rw [mean]; field_simp; ring
  generalize mean (total d) β = μ at *
  rw [hm]
  field_simp
  ring

/-- A variance is not negative. -/
theorem var_nonneg (d : ℕ → Fin 32768 → ℝ) (β : ℝ) : 0 ≤ var (total d) (total fun b n => d b n * d b n) β := by
  rw [← var_eq]
  exact div_nonneg (total_nonneg _ fun b n => mul_self_nonneg _) cnt_pos.le

/-- Under a root there stands a positive number. -/
theorem under_pos (d : ℕ → Fin 32768 → ℝ) (β : ℝ) : 0 < var (total d) (total fun b n => d b n * d b n) β + eps :=
  add_pos_of_nonneg_of_pos (var_nonneg d β) eps_pos

/-- The normalisation is one scale and one shift. -/
theorem norm_eq (S Q β γ η x : ℝ) :
    (x + β - mean S β) * (Real.sqrt (var S Q β + eps))⁻¹ * γ + η = x * scale S Q β γ + shift S Q β γ η := by
  simp only [scale, shift]; ring

/-! ## The three layers -/

/-- A linear map at every sample. -/
def lin {m : ℕ} (W : Fin m → Fin 32 → ℝ) (h : ℕ → Fin 32 → Fin 32768 → ℝ) (b : ℕ) (o : Fin m) (n : Fin 32768) : ℝ :=
  ∑ k, W o k * h b k n

/-- The sum of a channel over all samples. -/
def sum1 {m : ℕ} (d : ℕ → Fin m → Fin 32768 → ℝ) (o : Fin m) : ℝ := total fun b n => d b o n
/-- The sum of a channel's squares over all samples. -/
def sum2 {m : ℕ} (d : ℕ → Fin m → Fin 32768 → ℝ) (o : Fin m) : ℝ := total fun b n => d b o n * d b o n

/-- The sum of a linear map's results is the linear map of the sums. -/
theorem sum1_lin {m : ℕ} (W : Fin m → Fin 32 → ℝ) (h : ℕ → Fin 32 → Fin 32768 → ℝ) (o : Fin m) :
    sum1 (lin W h) o = ∑ k, W o k * sum1 h k := by
  simp only [sum1, lin, total_sum, total_mul]

/-- A normalised layer, from the linear map's results: one scale, one shift, relu. -/
def act (d : ℕ → Fin 32 → Fin 32768 → ℝ) (β γ η : Fin 32 → ℝ) (b : ℕ) (o : Fin 32) (n : Fin 32768) : ℝ :=
  max (d b o n * scale (sum1 d o) (sum2 d o) (β o) (γ o) + shift (sum1 d o) (sum2 d o) (β o) (γ o) (η o)) 0

/-- The arguments but the last shift, as real numbers. -/
structure Data where
  x : ℕ → Fin 32 → Fin 32768 → ℝ
  W0 : Fin 32 → Fin 32 → ℝ
  b0 : Fin 32 → ℝ
  g0 : Fin 32 → ℝ
  e0 : Fin 32 → ℝ
  W1 : Fin 32 → Fin 32 → ℝ
  b1 : Fin 32 → ℝ
  g1 : Fin 32 → ℝ
  e1 : Fin 32 → ℝ
  W2 : Fin 64 → Fin 32 → ℝ
  b2 : Fin 64 → ℝ
  g2 : Fin 64 → ℝ

namespace Data

variable (A : Data)

/-- The first linear map's results. -/
def d1 : ℕ → Fin 32 → Fin 32768 → ℝ := lin A.W0 A.x
/-- The first layer's scale and shift. -/
def a1 (o : Fin 32) : ℝ := scale (sum1 A.d1 o) (sum2 A.d1 o) (A.b0 o) (A.g0 o)
def c1 (o : Fin 32) : ℝ := shift (sum1 A.d1 o) (sum2 A.d1 o) (A.b0 o) (A.g0 o) (A.e0 o)
/-- The first layer's results. -/
def h1 : ℕ → Fin 32 → Fin 32768 → ℝ := act A.d1 A.b0 A.g0 A.e0
/-- The second linear map's results. -/
def d2 : ℕ → Fin 32 → Fin 32768 → ℝ := lin A.W1 A.h1
/-- The second layer's scale and shift. -/
def a2 (o : Fin 32) : ℝ := scale (sum1 A.d2 o) (sum2 A.d2 o) (A.b1 o) (A.g1 o)
def c2 (o : Fin 32) : ℝ := shift (sum1 A.d2 o) (sum2 A.d2 o) (A.b1 o) (A.g1 o) (A.e1 o)
/-- The second layer's results. -/
def h2 : ℕ → Fin 32 → Fin 32768 → ℝ := act A.d2 A.b1 A.g1 A.e1
/-- The third linear map's results. -/
def d3 : ℕ → Fin 64 → Fin 32768 → ℝ := lin A.W2 A.h2
/-- The third layer's scale, and its mean. -/
def a3 (o : Fin 64) : ℝ := scale (sum1 A.d3 o) (sum2 A.d3 o) (A.b2 o) (A.g2 o)
def m3 (o : Fin 64) : ℝ := mean (sum1 A.d3 o) (A.b2 o)

/-- The second layer's results with the scale inside the weights, as the kernel makes them. -/
theorem h2_scaled (b : ℕ) (o : Fin 32) (n : Fin 32768) :
    max ((∑ k, A.W1 o k * A.a2 o * A.h1 b k n) + A.c2 o) 0 = A.h2 b o n := by
  have h : (∑ k, A.W1 o k * A.a2 o * A.h1 b k n) = A.d2 b o n * A.a2 o := by
    rw [d2, lin, Finset.sum_mul]
    exact sum_congr rfl fun k _ => by ring
  rw [h]; rfl

end Data

end Cert.Maths

end
-- ==== Proof.Value.Words.lean ====
/- The literals of the two programs as real numbers, and their operations on real numbers among the extended reals. -/
module

public import proofs.«01_k».proof.Proof.Value.Maths
public import Idealize.ShloMosaic.PureOps.Ideal
public import Idealize.ShloMosaic.PureOps.Ideal.Laws

@[expose] public section

noncomputable section

namespace Cert.Words

open Idealize.ShloMosaic Cert.Maths Finset

theorem ofBits_cnt : Ideal.ofBits .f32 0x49000000#32 = ((cnt : ℝ) : EReal) := by
  unfold cnt
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eps : Ideal.ofBits .f32 0x3727C5AC#32 = ((eps : ℝ) : EReal) := by
  unfold eps
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem div_cnt (x : ℝ) : Ideal.div (x : EReal) ((cnt : ℝ) : EReal) = ((x / cnt : ℝ) : EReal) := by
  rw [Ideal.div_coe cnt_ne, ← EReal.coe_mul, mul_one_div]

theorem coe_max (x y : ℝ) : max (x : EReal) (y : EReal) = ((max x y : ℝ) : EReal) :=
  (EReal.coe_strictMono.monotone.map_max).symm

theorem relu (x : ℝ) : max (x : EReal) 0 = ((max x 0 : ℝ) : EReal) := by
  rw [← coe_max, EReal.coe_zero]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [sum_insert h, sum_insert h, ih, EReal.coe_add]

theorem rsqrt_pos (x : ℝ) (h : 0 < x) : Ideal.rsqrt (x : EReal) = (((Real.sqrt x)⁻¹ : ℝ) : EReal) := by
  rw [Ideal.rsqrt_coe, if_neg h.not_gt, if_neg h.ne']

/-- The mean as the kernel writes it. -/
theorem mean_word (S β : ℝ) :
    Ideal.div ((S : EReal) + (cnt : EReal) * (β : EReal)) (cnt : EReal) = ((mean S β : ℝ) : EReal) := by
  rw [← EReal.coe_mul, ← EReal.coe_add, div_cnt]; rfl

/-- The scale as the kernel writes it. -/
theorem scale_word (S Q β γ : ℝ) (h : 0 < var S Q β + eps) :
    (γ : EReal) * Ideal.rsqrt (Ideal.div ((Q : EReal) + ((2 : ℝ) : EReal) * (β : EReal) * (S : EReal) + (cnt : EReal) * (β : EReal) * (β : EReal)) (cnt : EReal)
        - ((mean S β : ℝ) : EReal) * ((mean S β : ℝ) : EReal) + (eps : EReal)) = ((scale S Q β γ : ℝ) : EReal) := by
  simp only [← EReal.coe_mul, ← EReal.coe_add, div_cnt, ← EReal.coe_sub]
  rw [rsqrt_pos _ (by simpa only [var] using h), ← EReal.coe_mul]; rfl

/-- The largest of finitely many is one of them. -/
theorem fold_max {n : ℕ} (f : Fin (n + 1) → EReal) : ∃ k, (Finset.univ : Finset (Fin (n + 1))).fold max ⊥ f = f k ∧ ∀ l, f l ≤ f k := by
  obtain ⟨k, -, hk⟩ := Finset.exists_max_image (Finset.univ : Finset (Fin (n + 1))) f ⟨0, Finset.mem_univ _⟩
  refine ⟨k, le_antisymm ?_ ?_, fun l => hk l (Finset.mem_univ _)⟩
  · exact (Finset.fold_max_le _).2 ⟨bot_le, fun x hx => hk x hx⟩
  · exact (Finset.le_fold_max _).2 (.inr ⟨k, Finset.mem_univ _, le_rfl⟩)

/-- An order-keeping map may be taken after the maximum. -/
theorem map_fold_max {n : ℕ} (f : Fin (n + 1) → EReal) (T : EReal → EReal) (hT : ∀ x y, x ≤ y → T x ≤ T y) :
    (Finset.univ : Finset (Fin (n + 1))).fold max ⊥ (fun k => T (f k)) = T ((Finset.univ : Finset (Fin (n + 1))).fold max ⊥ f) := by
  obtain ⟨k, hk, hm⟩ := fold_max f
  obtain ⟨l, hl, hm'⟩ := fold_max fun k => T (f k)
  rw [hk, hl]
  exact le_antisymm (hT _ _ (hm l)) (hm' k)

/-- The maximum of real numbers is a real number. -/
theorem fold_max_coe {n : ℕ} (f : Fin (n + 1) → ℝ) : ∃ r : ℝ, (Finset.univ : Finset (Fin (n + 1))).fold max ⊥ (fun k => (f k : EReal)) = (r : EReal) :=
  (fold_max fun k => (f k : EReal)).imp' f fun k h => h.1

/-- The last layer: the normalisation, then the maximum, against the maximum, then one scale and one shift. The shift `η`
    may be infinite; the scale must not be negative. -/
theorem last_layer {n : ℕ} (d : Fin (n + 1) → ℝ) (S Q β γ : ℝ) (η : EReal) (hγ : 0 ≤ γ) :
    (Finset.univ : Finset (Fin (n + 1))).fold max ⊥ (fun k => max ((((d k + β - mean S β) * (Real.sqrt (var S Q β + eps))⁻¹ * γ : ℝ) : EReal) + η) 0)
      = max (((scale S Q β γ : ℝ) : EReal) * ((Finset.univ : Finset (Fin (n + 1))).fold max ⊥ (fun k => (d k : EReal)) + (β : EReal))
          + (η - ((mean S β : ℝ) : EReal) * ((scale S Q β γ : ℝ) : EReal))) 0 := by
  have ha : 0 ≤ scale S Q β γ := mul_nonneg hγ (inv_nonneg.2 (Real.sqrt_nonneg _))
  obtain ⟨k, hk, hm⟩ := fold_max fun k => (d k : EReal)
  have e : ∀ x : ℝ, (x + β - mean S β) * (Real.sqrt (var S Q β + eps))⁻¹ * γ = scale S Q β γ * (x + β) + -(mean S β * scale S Q β γ) := by
    intro x; simp only [scale]; ring
  have e2 : ((scale S Q β γ : ℝ) : EReal) * ((d k : EReal) + (β : EReal)) + (η - ((mean S β : ℝ) : EReal) * ((scale S Q β γ : ℝ) : EReal))
      = (((d k + β - mean S β) * (Real.sqrt (var S Q β + eps))⁻¹ * γ : ℝ) : EReal) + η := by
    rw [e, EReal.coe_add, EReal.coe_mul, EReal.coe_add, EReal.coe_neg, EReal.coe_mul, sub_eq_add_neg]
    ac_rfl
  rw [hk, e2]
  obtain ⟨l, hl, hm'⟩ := fold_max fun k => max ((((d k + β - mean S β) * (Real.sqrt (var S Q β + eps))⁻¹ * γ : ℝ) : EReal) + η) 0
  rw [hl]
  refine le_antisymm (max_le_max (add_le_add ?_ le_rfl) le_rfl) (hm' k)
  have h := EReal.coe_le_coe_iff.1 (hm l)
  refine EReal.coe_le_coe_iff.2 ?_
  rw [e, e]
  have := mul_le_mul_of_nonneg_left h ha
  linarith [this, mul_add (scale S Q β γ) (d l) β, mul_add (scale S Q β γ) (d k) β]

end Cert.Words

end
-- ==== Proof.Value.Pack.lean ====
/- What one point of the first launch computes, over the reals: the linear map of its four batches, and their sums and sums
   of squares added to the running ones. -/
module

public import proofs.«01_k».proof.Proof.KernelIdeal.PackBody
public import proofs.«01_k».proof.Proof.Value.Words
public import Idealize.ShloMosaic.Lib.Pointwise

@[expose] public section

set_option maxRecDepth 16384

noncomputable section

namespace Cert.KernelIdeal.Pack

open Cert.KernelIdeal Cert.KernelIdeal.Gen
open Idealize.ShloMosaic Idealize.ShloMosaic.TcCoe Idealize.ShloMosaic.Tactic
open Cert.Maths Cert.Words

/-- A point's blocks hold the batches from `g` on, the channels cut into the three coordinates and the 29 features, and
    the weights cut likewise. -/
structure Holds (A : Data) (g : ℕ) (x0 : FVec Ideal S4x3x32768 .f32) (x1 : FVec Ideal S4x29x32768 .f32) (x2 : FVec Ideal S32x3 .f32) (x3 : FVec Ideal S32x29 .f32) : Prop where
  h0 : ∀ (i : Fin 4) (k : Fin 3) (n : Fin 32768), x0 (ix3 i k n) = ((A.x (g + i) ⟨k, by omega⟩ n : ℝ) : EReal)
  h1 : ∀ (i : Fin 4) (k : Fin 29) (n : Fin 32768), x1 (ix3 i k n) = ((A.x (g + i) ⟨3 + k, by omega⟩ n : ℝ) : EReal)
  h2 : ∀ (o : Fin 32) (k : Fin 3), x2 (ix2 o k) = ((A.W0 o ⟨k, by omega⟩ : ℝ) : EReal)
  h3 : ∀ (o : Fin 32) (k : Fin 29), x3 (ix2 o k) = ((A.W0 o ⟨3 + k, by omega⟩ : ℝ) : EReal)

/-- The two partial products make the whole one. -/
theorem split_dot (A : Data) (b : ℕ) (o : Fin 32) (n : Fin 32768) :
    (∑ k : Fin 3, A.W0 o ⟨k, by omega⟩ * A.x b ⟨k, by omega⟩ n) + (∑ k : Fin 29, A.W0 o ⟨3 + k, by omega⟩ * A.x b ⟨3 + k, by omega⟩ n) = A.d1 b o n := by
  unfold Data.d1 lin
  exact (Fin.sum_univ_add (a := 3) (b := 29) fun k => A.W0 o k * A.x b k n).symm

variable {A : Data} {g : ℕ} {x0 : FVec Ideal S4x3x32768 .f32} {x1 : FVec Ideal S4x29x32768 .f32} {x2 : FVec Ideal S32x3 .f32} {x3 : FVec Ideal S32x29 .f32}

/-- One batch's product. -/
theorem product_at (v7 : FVec Ideal S1x3x32768 .f32) (v12 : FVec Ideal S1x29x32768 .f32) (H : Holds A g x0 x1 x2 x3) (i : Fin 4)
    (h7 : ∀ (k : Fin 3) (n : Fin 32768), v7 (ix3 0 k n) = x0 (ix3 i k n)) (h12 : ∀ (k : Fin 29) (n : Fin 32768), v12 (ix3 0 k n) = x1 (ix3 i k n))
    (o : Fin 32) (n : Fin 32768) : k0_pay5 (F := Ideal) x2 v7 x3 v12 (ix2 o n) = ((A.d1 (g + i) o n : ℝ) : EReal) := by
  pointwise [k0_pay5]
  simp only [h7, h12, H.h0, H.h1, H.h2, H.h3, ← EReal.coe_mul, coe_sum, ← EReal.coe_add, zero_add, split_dot]

/-- The product of the batch that stands at place `i` of the block. -/
theorem prodAt_at (H : Holds A g x0 x1 x2 x3) (i : ℕ) (hi : i < 4) (i0 : ∀ a : Fin 3, (![i, 0, 0] : Fin 3 → ℕ) a + (![1, 3, 32768] : Fin 3 → ℕ) a ≤ S4x3x32768.size a)
    (i1 : ∀ a : Fin 3, (![i, 0, 0] : Fin 3 → ℕ) a + (![1, 29, 32768] : Fin 3 → ℕ) a ≤ S4x29x32768.size a) (o : Fin 32) (n : Fin 32768) :
    k0_pay5 (F := Ideal) x2 (xyzAt x0 ![i, 0, 0] i0) x3 (ptsAt x1 ![i, 0, 0] i1) (ix2 o n) = ((A.d1 (g + i) o n : ℝ) : EReal) := by
  refine product_at _ _ H ⟨i, hi⟩ (fun k n => ?_) (fun k n => ?_) o n
  · refine congrArg x0 ?_
    funext a
    refine Fin.ext ?_
    fin_cases a <;> simp [Rect.idx_unit_val]
  · refine congrArg x1 ?_
    funext a
    refine Fin.ext ?_
    fin_cases a <;> simp [Rect.idx_unit_val]

/-- The running sums after a point. -/
theorem sums_at (H : Holds A g x0 x1 x2 x3) (s : FVec Ideal S32x1 .f32) (o : Fin 32) :
    sums (F := Ideal) x0 x1 x2 x3 s (ix2 o 0) = s (ix2 o 0) + ((∑ i ∈ Finset.range 4, ∑ n, A.d1 (g + i) o n : ℝ) : EReal) := by
  have e (v30 : FVec Ideal S1x3x32768 .f32) v34 : k0_pay11 (F := Ideal) (k0_pay9 x2) (k0_pay10 v30) x3 v34 = k0_pay5 (F := Ideal) x2 v30 x3 v34 := rfl
  have e15 : k0_pay15 (F := Ideal) = k0_pay5 (F := Ideal) := rfl
  have e18 : k0_pay18 (F := Ideal) = k0_pay5 (F := Ideal) := rfl
  unfold sums
  pointwise [k0_pay21, k0_pay13, k0_pay7]
  simp only [e, e15, e18]
  simp only [prodAt_at H 0 (by omega), prodAt_at H 1 (by omega), prodAt_at H 2 (by omega), prodAt_at H 3 (by omega), coe_sum, ← EReal.coe_add, zero_add]
  simp only [Finset.sum_range_succ, Finset.sum_range_zero, zero_add]

/-- The running sums of squares after a point. -/
theorem squares_at (H : Holds A g x0 x1 x2 x3) (s : FVec Ideal S32x1 .f32) (o : Fin 32) :
    squares (F := Ideal) x0 x1 x2 x3 s (ix2 o 0) = s (ix2 o 0) + ((∑ i ∈ Finset.range 4, ∑ n, A.d1 (g + i) o n * A.d1 (g + i) o n : ℝ) : EReal) := by
  have e (v30 : FVec Ideal S1x3x32768 .f32) v34 : k0_pay11 (F := Ideal) (k0_pay9 x2) (k0_pay10 v30) x3 v34 = k0_pay5 (F := Ideal) x2 v30 x3 v34 := rfl
  have e15 : k0_pay15 (F := Ideal) = k0_pay5 (F := Ideal) := rfl
  have e18 : k0_pay18 (F := Ideal) = k0_pay5 (F := Ideal) := rfl
  unfold squares
  pointwise [k0_pay1, k0_pay20, k0_pay14, k0_pay8]
  simp only [e, e15, e18]
  simp only [prodAt_at H 0 (by omega), prodAt_at H 1 (by omega), prodAt_at H 2 (by omega), prodAt_at H 3 (by omega), ← EReal.coe_mul, coe_sum, ← EReal.coe_add, zero_add]
  simp only [Finset.sum_range_succ, Finset.sum_range_zero, zero_add]

/-- The product that a point writes for each of its four batches. -/
theorem packed_at (H : Holds A g x0 x1 x2 x3) (i : Fin 4) (o : Fin 32) (n : Fin 32768) :
    packed (F := Ideal) x0 x1 x2 x3 (ix3 i o n) = ((A.d1 (g + i) o n : ℝ) : EReal) := by
  have e (v30 : FVec Ideal S1x3x32768 .f32) v34 : k0_pay11 (F := Ideal) (k0_pay9 x2) (k0_pay10 v30) x3 v34 = k0_pay5 (F := Ideal) x2 v30 x3 v34 := rfl
  have e15 : k0_pay15 (F := Ideal) = k0_pay5 (F := Ideal) := rfl
  have e18 : k0_pay18 (F := Ideal) = k0_pay5 (F := Ideal) := rfl
  unfold packed
  canon_tiles x h
  all_goals
    obtain rfl : x = ix3 0 o n := by
      funext a
      fin_cases a
      · exact Fin.ext (by simpa using x0_lt)
      · exact Fin.ext h1.symm
      · exact Fin.ext h2.symm
  · obtain rfl : i = 3 := Fin.ext h0
    have := prodAt_at H 3 (by omega) (o := o) (n := n)
    pointwise [k0_pay19]
    exact this _ _
  · obtain rfl : i = 2 := Fin.ext h0
    have := prodAt_at H 2 (by omega) (o := o) (n := n)
    pointwise [k0_pay17]
    exact this _ _
  · obtain rfl : i = 1 := Fin.ext h0
    have := prodAt_at H 1 (by omega) (o := o) (n := n)
    pointwise [k0_pay12]
    exact this _ _
  · obtain rfl : i = 0 := Fin.ext h0
    have := prodAt_at H 0 (by omega) (o := o) (n := n)
    pointwise [k0_pay6]
    exact this _ _

end Cert.KernelIdeal.Pack
-- ==== Proof.Value.PackArr.lean ====
/- What the first launch leaves in its two result arrays, over the reals. -/
module

public import proofs.«01_k».proof.Proof.KernelIdeal.PackRegion
public import proofs.«01_k».proof.Proof.Value.Pack
public import Idealize.ShloMosaic.Lib.Pipeline.ValueKit

@[expose] public section

set_option maxRecDepth 16384

noncomputable section

namespace Cert.KernelIdeal.Pack

open Cert.KernelIdeal Cert.KernelIdeal.Gen
open Idealize.ShloMosaic Idealize.ShloMosaic.TcCoe Idealize.ShloMosaic.Tactic
open Idealize.ShloMosaic.Pipeline (Dat)
open Cert.Maths Cert.Words

variable (V : Dev nD → Valuation τ sig (Elt Ideal)) (c : Dev nD)

/-- The arrays that the first launch reads hold real data. -/
structure Arrays (A : Data) : Prop where
  h0 : ∀ (b : Fin 16) (k : Fin 3) (n : Fin 32768), (show FVec Ideal S16x3x32768 .f32 from V c main_arg0) (ix3 b k n) = ((A.x b ⟨k, by omega⟩ n : ℝ) : EReal)
  h1 : ∀ (b : Fin 16) (k : Fin 29) (n : Fin 32768), (show FVec Ideal S16x29x32768 .f32 from V c main_arg1) (ix3 b k n) = ((A.x b ⟨3 + k, by omega⟩ n : ℝ) : EReal)
  h2 : ∀ (o : Fin 32) (k : Fin 3), (show FVec Ideal S32x3 .f32 from V c main_v0) (ix2 o k) = ((A.W0 o ⟨k, by omega⟩ : ℝ) : EReal)
  h3 : ∀ (o : Fin 32) (k : Fin 29), (show FVec Ideal S32x29 .f32 from V c main_v1) (ix2 o k) = ((A.W0 o ⟨3 + k, by omega⟩ : ℝ) : EReal)

theorem idx : ∀ t : Fin cfg0.N, (t.val < 4 ∧ win0_0.index t = ![t.val, 0, 0] ∧ win0_1.index t = ![t.val, 0, 0] ∧ win0_2.index t = ![0, 0] ∧ win0_3.index t = ![0, 0])
    ∧ win0_4.index t = ![0, 0] ∧ win0_5.index t = ![t.val, 0, 0] :=
  (by decide +kernel : ∀ t : Fin grid0.N, _)

variable {A : Data}

theorem blocks (H : Arrays V c A) (t : Fin cfg0.N) : Holds A (4 * t.val) (iblk V c 0 t) (iblk V c 1 t) (iblk V c 2 t) (iblk V c 3 t) := by
  obtain ⟨⟨h4, i0, i1, i2, i3⟩, -⟩ := idx t
  refine ⟨fun i k n => ?_, fun i k n => ?_, fun o k => ?_, fun o k => ?_⟩
  · refine Eq.trans ?_ (H.h0 ⟨4 * t.val + i.val, by omega⟩ k n)
    blk_ext [iblk, i0]
  · refine Eq.trans ?_ (H.h1 ⟨4 * t.val + i.val, by omega⟩ k n)
    blk_ext [iblk, i1]
  · refine Eq.trans ?_ (H.h2 o k)
    blk_ext [iblk, i2]
  · refine Eq.trans ?_ (H.h3 o k)
    blk_ext [iblk, i3]

/-- The running sums after `n` points. -/
theorem accum_at (H : Arrays V c A) (o : Fin 32) : ∀ n ≤ 4,
    (accum V c n).1 (ix2 o 0) = ((∑ b ∈ Finset.range (4 * n), ∑ k, A.d1 b o k : ℝ) : EReal)
      ∧ (accum V c n).2 (ix2 o 0) = ((∑ b ∈ Finset.range (4 * n), ∑ k, A.d1 b o k * A.d1 b o k : ℝ) : EReal) := by
  have z3 : (k0_pay3 (F := Ideal)) (ix2 o 0) = 0 := by pointwise [k0_pay3]
  have z4 : (k0_pay4 (F := Ideal)) (ix2 o 0) = 0 := by pointwise [k0_pay4]
  intro n
  induction n with
  | zero => intro _; exact ⟨by simpa [accum] using z3, by simpa [accum] using z4⟩
  | succ n ih =>
    intro hn
    obtain ⟨e1, e2⟩ := ih (by omega)
    have h := accum_succ V c ⟨n, lt_of_lt_of_eq (by omega : n < 4) (show 4 = cfg0.N from N_0.symm)⟩
    dsimp only at h
    have f := first_iff ⟨n, lt_of_lt_of_eq (by omega : n < 4) (show 4 = cfg0.N from N_0.symm)⟩
    dsimp only at f
    rw [h]
    dsimp only [step]
    rw [sums_at (blocks V c H _), squares_at (blocks V c H _)]
    by_cases hz : n = 0
    · subst hz
      rw [if_pos (f.mpr rfl), if_pos (f.mpr rfl), z3, z4]
      simp
    · have hf := fun q => hz (by have := f.mp q; omega)
      rw [if_neg hf, if_neg hf, e1, e2, ← EReal.coe_add, ← EReal.coe_add, ← Finset.sum_range_add, ← Finset.sum_range_add]
      exact ⟨rfl, rfl⟩

/-- The array of the sums and sums of squares after the first launch. -/
theorem stats_eq : (dat V c).arrAt 4 cfg0.N = (k0_pay2 (accum V c 4).1 (accum V c 4).2 : FVec Ideal S32x2 .f32) := by
  refine (dat V c).arrAt_eq_of_after_last 4 t0_3 (by decide +kernel) _ fun j => ?_
  blk_simp
  rw [after4]
  have e : (t0_3 : Fin cfg0.N).val + 1 = 4 := by decide +kernel
  rw [e]

theorem sum_at (H : Arrays V c A) (o : Fin 32) : (show FVec Ideal S32x2 .f32 from (dat V c).arrAt 4 cfg0.N) (ix2 o 0) = ((sum1 A.d1 o : ℝ) : EReal) := by
  rw [stats_eq]
  pointwise [k0_pay2]
  exact (accum_at V c H o 4 le_rfl).1

theorem sq_at (H : Arrays V c A) (o : Fin 32) : (show FVec Ideal S32x2 .f32 from (dat V c).arrAt 4 cfg0.N) (ix2 o 1) = ((sum2 A.d1 o : ℝ) : EReal) := by
  rw [stats_eq]
  pointwise [k0_pay2]
  exact (accum_at V c H o 4 le_rfl).2

/-- The array of the first linear map's results after the first launch. -/
theorem d1_eq (H : Arrays V c A) : (dat V c).arrAt 5 cfg0.N = fun j : S16x32x32768.Idx => ((A.d1 (j 0).val (j 1) (j 2) : ℝ) : EReal) := by
  refine (dat V c).arrAt_eq_of_covers 5 _ (by decide +kernel) fun t _ y => ?_
  have e0 : win0_5.index t 0 * 4 + (y 0).val = 4 * t.val + (y 0).val := by
    rw [(idx t).2.2]
    exact congrArg (· + (y 0).val) (Nat.mul_comm _ _)
  have e1 : (show Fin 32 from y 1) = (show Fin 32 from (win0_5.blk t).view.emb y 1) := by
    refine Fin.ext ?_
    blk_simp [(idx t).2.2]
  have e2 : (show Fin 32768 from y 2) = (show Fin 32768 from (win0_5.blk t).view.emb y 2) := by
    refine Fin.ext ?_
    blk_simp [(idx t).2.2]
  blk_simp
  rw [after5, e0]
  have key := packed_at (blocks V c H t) (y 0) (y 1) (y 2)
  refine Eq.trans (congrArg (packed (F := Ideal) _ _ _ _) ?_) (key.trans (congrArg _ (congrArg₂ (A.d1 _) e1 e2)))
  blk_ext

end Cert.KernelIdeal.Pack
-- ==== Proof.Value.Mlp.lean ====
/- What one point of the second launch computes, over the reals: the scales and shifts, the sums that its four batches add
   to the running ones, and the maxima of its four batches. -/
module

public import proofs.«01_k».proof.Proof.KernelIdeal.MlpBody
public import proofs.«01_k».proof.Proof.Value.Words
public import Idealize.ShloMosaic.Lib.Pointwise

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Cert.Maths Cert.Words

/-- A point's blocks hold the first layer's linear map at the batches from `g` on, and the arguments. -/
structure Holds (A : Data) (g : ℕ) (X : Ins Ideal) : Prop where
  d : ∀ (i : Fin 4) (o : Fin 32) (n : Fin 32768), X.d (ix3 i o n) = ((A.d1 (g + i) o n : ℝ) : EReal)
  s : ∀ o : Fin 32, X.st (ix2 o 0) = ((sum1 A.d1 o : ℝ) : EReal)
  q : ∀ o : Fin 32, X.st (ix2 o 1) = ((sum2 A.d1 o : ℝ) : EReal)
  b0 : ∀ o : Fin 32, X.b0 (ix2 o 0) = ((A.b0 o : ℝ) : EReal)
  g0 : ∀ o : Fin 32, X.g0 (ix2 o 0) = ((A.g0 o : ℝ) : EReal)
  e0 : ∀ o : Fin 32, X.e0 (ix2 o 0) = ((A.e0 o : ℝ) : EReal)
  W1 : ∀ o k : Fin 32, X.W1 (ix2 o k) = ((A.W1 o k : ℝ) : EReal)
  b1 : ∀ o : Fin 32, X.b1 (ix2 o 0) = ((A.b1 o : ℝ) : EReal)
  g1 : ∀ o : Fin 32, X.g1 (ix2 o 0) = ((A.g1 o : ℝ) : EReal)
  e1 : ∀ o : Fin 32, X.e1 (ix2 o 0) = ((A.e1 o : ℝ) : EReal)
  W2 : ∀ (o : Fin 64) (k : Fin 32), X.W2 (ix2 o k) = ((A.W2 o k : ℝ) : EReal)
  b2 : ∀ o : Fin 64, X.b2 (ix2 o 0) = ((A.b2 o : ℝ) : EReal)
  g2 : ∀ o : Fin 64, X.g2 (ix2 o 0) = ((A.g2 o : ℝ) : EReal)

variable {A : Data} {g : ℕ} {X : Ins Ideal}

/-- The batch that stands at place `i` of the block. -/
theorem blkAt_at (H : Holds A g X) (i : ℕ) (hi : i < 4) (i0 : ∀ a : Fin 3, (![i, 0, 0] : Fin 3 → ℕ) a + (![1, 32, 32768] : Fin 3 → ℕ) a ≤ S4x32x32768.size a)
    (o : Fin 32) (n : Fin 32768) : blkAt X.d ![i, 0, 0] i0 (ix3 0 o n) = ((A.d1 (g + i) o n : ℝ) : EReal) := by
  refine Eq.trans (congrArg X.d ?_) (H.d ⟨i, hi⟩ o n)
  funext a
  refine Fin.ext ?_
  fin_cases a <;> simp [Rect.idx_unit_val]

theorem sumCol_at (H : Holds A g X) (o : Fin 32) : sumCol X.st (ix2 o 0) = ((sum1 A.d1 o : ℝ) : EReal) := by
  refine Eq.trans (congrArg X.st ?_) (H.s o)
  funext a
  refine Fin.ext ?_
  fin_cases a <;> simp [Rect.idx_unit_val]

theorem sqCol_at (H : Holds A g X) (o : Fin 32) : sqCol X.st (ix2 o 0) = ((sum2 A.d1 o : ℝ) : EReal) := by
  refine Eq.trans (congrArg X.st ?_) (H.q o)
  funext a
  refine Fin.ext ?_
  fin_cases a <;> simp [Rect.idx_unit_val]

theorem scale1_at (H : Holds A g X) (o : Fin 32) : scale1 X (ix2 o 0) = ((A.a1 o : ℝ) : EReal) := by
  unfold scale1
  pointwise [k1_pay2, k1_pay1, k1_pay16, k1_pay17, k1_pay18, k1_pay19, k1_pay20]
  simp only [sumCol_at H, sqCol_at H, H.b0, H.g0, ofBits_cnt, ofBits_two, ofBits_eps, mean_word]
  exact scale_word _ _ _ _ (under_pos (fun b n => A.d1 b o n) (A.b0 o))

theorem shift1_at (H : Holds A g X) (o : Fin 32) : shift1 X (ix2 o 0) = ((A.c1 o : ℝ) : EReal) := by
  unfold shift1
  pointwise [k1_pay3, k1_pay2, k1_pay1, k1_pay16, k1_pay17, k1_pay18, k1_pay19, k1_pay20]
  simp only [sumCol_at H, sqCol_at H, H.b0, H.g0, H.e0, ofBits_cnt, ofBits_two, ofBits_eps, mean_word]
  rw [scale_word (sum1 A.d1 o) (sum2 A.d1 o) _ _ (under_pos (fun b n => A.d1 b o n) (A.b0 o))]
  simp only [← EReal.coe_sub, ← EReal.coe_mul, ← EReal.coe_add]
  rfl

/-- The state holds the first layer's scale and shift. -/
structure Holds1 (A : Data) (s : St Ideal) : Prop where
  a1 : ∀ o : Fin 32, s.a1 (ix2 o 0) = ((A.a1 o : ℝ) : EReal)
  c1 : ∀ o : Fin 32, s.c1 (ix2 o 0) = ((A.c1 o : ℝ) : EReal)

/-- The state holds the second layer's weights with the scale inside, and its shift. -/
structure Holds2 (A : Data) (s : St Ideal) : Prop where
  w1 : ∀ o k : Fin 32, s.w1 (ix2 o k) = ((A.W1 o k * A.a2 o : ℝ) : EReal)
  c2 : ∀ o : Fin 32, s.c2 (ix2 o 0) = ((A.c2 o : ℝ) : EReal)

/-- The second linear map's results, written out. -/
theorem d2_at (A : Data) (b : ℕ) (o : Fin 32) (n : Fin 32768) :
    (∑ k, A.W1 o k * max (A.d1 b k n * A.a1 k + A.c1 k) 0) = A.d2 b o n := rfl

/-- The second layer's results, written out with the scale inside the weights. -/
theorem h2_at (A : Data) (b : ℕ) (o : Fin 32) (n : Fin 32768) :
    max ((∑ k, A.W1 o k * A.a2 o * max (A.d1 b k n * A.a1 k + A.c1 k) 0) + A.c2 o) 0 = A.h2 b o n :=
  A.h2_scaled b o n

/-- The third linear map's results, written out. -/
theorem d3_at (A : Data) (b : ℕ) (o : Fin 64) (n : Fin 32768) : (∑ k, A.W2 o k * A.h2 b k n) = A.d3 b o n := rfl

theorem pass0_sd2 (H : Holds A g X) (s : St Ideal) (hs : Holds1 A s) (o : Fin 32) :
    (pass0 X s).sd2 (ix2 o 0) = s.sd2 (ix2 o 0) + ((∑ i ∈ Finset.range 4, ∑ n, A.d2 (g + i) o n : ℝ) : EReal) := by
  dsimp only [pass0]
  pointwise [k1_pay6, k1_pay32, k1_pay27, k1_pay29, k1_pay34, k1_pay5, k1_pay26, k1_pay30, k1_pay31]
  simp only [blkAt_at H 0 (by omega), blkAt_at H 1 (by omega), blkAt_at H 2 (by omega), blkAt_at H 3 (by omega), hs.a1, hs.c1, H.W1,
    ← EReal.coe_mul, ← EReal.coe_add, relu, coe_sum, zero_add, d2_at]
  simp only [Finset.sum_range_succ, Finset.sum_range_zero, zero_add]

theorem pass0_sq2 (H : Holds A g X) (s : St Ideal) (hs : Holds1 A s) (o : Fin 32) :
    (pass0 X s).sq2 (ix2 o 0) = s.sq2 (ix2 o 0) + ((∑ i ∈ Finset.range 4, ∑ n, A.d2 (g + i) o n * A.d2 (g + i) o n : ℝ) : EReal) := by
  dsimp only [pass0]
  pointwise [k1_pay7, k1_pay33, k1_pay28, k1_pay29, k1_pay34, k1_pay5, k1_pay26, k1_pay30, k1_pay31]
  simp only [blkAt_at H 0 (by omega), blkAt_at H 1 (by omega), blkAt_at H 2 (by omega), blkAt_at H 3 (by omega), hs.a1, hs.c1, H.W1,
    ← EReal.coe_mul, ← EReal.coe_add, relu, coe_sum, zero_add, d2_at]
  simp only [Finset.sum_range_succ, Finset.sum_range_zero, zero_add]

/-- The sums of the second linear map's results are whole. -/
structure Whole2 (A : Data) (s : St Ideal) : Prop where
  sd : ∀ o : Fin 32, s.sd2 (ix2 o 0) = ((sum1 A.d2 o : ℝ) : EReal)
  sq : ∀ o : Fin 32, s.sq2 (ix2 o 0) = ((sum2 A.d2 o : ℝ) : EReal)

theorem fold_holds (H : Holds A g X) (s : St Ideal) (hs : Whole2 A s) : Holds2 A (fold X s) := by
  refine ⟨fun o k => ?_, fun o => ?_⟩
  · dsimp only [fold]
    pointwise [k1_pay24, k1_pay4, k1_pay25, k1_pay21, k1_pay22, k1_pay23]
    simp only [hs.sd, hs.sq, H.b1, H.g1, H.W1, ofBits_cnt, ofBits_two, ofBits_eps, mean_word]
    rw [scale_word (sum1 A.d2 o) (sum2 A.d2 o) _ _ (under_pos (fun b n => A.d2 b o n) (A.b1 o))]
    simp only [← EReal.coe_sub, ← EReal.coe_mul, ← EReal.coe_add]
    rfl
  · dsimp only [fold]
    pointwise [k1_pay24, k1_pay4, k1_pay25, k1_pay21, k1_pay22, k1_pay23]
    simp only [hs.sd, hs.sq, H.b1, H.g1, H.e1, ofBits_cnt, ofBits_two, ofBits_eps, mean_word]
    rw [scale_word (sum1 A.d2 o) (sum2 A.d2 o) _ _ (under_pos (fun b n => A.d2 b o n) (A.b1 o))]
    simp only [← EReal.coe_sub, ← EReal.coe_mul, ← EReal.coe_add]
    rfl

variable (i : grid1.Coords)

theorem pass1_sh2 (H : Holds A g X) (s : St Ideal) (hs : Holds1 A s) (ht : Holds2 A s) (o : Fin 32) :
    (pass1 i X s).sh2 (ix2 o 0) = s.sh2 (ix2 o 0) + ((∑ i ∈ Finset.range 4, ∑ n, A.h2 (g + i) o n : ℝ) : EReal) := by
  dsimp only [pass1]
  pointwise [k1_pay9, k1_pay55, k1_pay49, k1_pay43, k1_pay37, k1_pay35, k1_pay41, k1_pay47, k1_pay53]
  simp only [blkAt_at H 0 (by omega), blkAt_at H 1 (by omega), blkAt_at H 2 (by omega), blkAt_at H 3 (by omega), hs.a1, hs.c1, ht.w1, ht.c2,
    ← EReal.coe_mul, ← EReal.coe_add, relu, coe_sum, zero_add, h2_at]
  simp only [Finset.sum_range_succ, Finset.sum_range_zero, zero_add]

theorem pass1_sq3 (H : Holds A g X) (s : St Ideal) (hs : Holds1 A s) (ht : Holds2 A s) (o : Fin 64) :
    (pass1 i X s).sq3 (ix2 o 0) = s.sq3 (ix2 o 0) + ((∑ i ∈ Finset.range 4, ∑ n, A.d3 (g + i) o n * A.d3 (g + i) o n : ℝ) : EReal) := by
  dsimp only [pass1]
  pointwise [k1_pay10, k1_pay56, k1_pay50, k1_pay44, k1_pay38, k1_pay35, k1_pay41, k1_pay47, k1_pay53, k1_pay36, k1_pay42, k1_pay48, k1_pay54]
  simp only [blkAt_at H 0 (by omega), blkAt_at H 1 (by omega), blkAt_at H 2 (by omega), blkAt_at H 3 (by omega), hs.a1, hs.c1, ht.w1, ht.c2, H.W2,
    ← EReal.coe_mul, ← EReal.coe_add, relu, coe_sum, zero_add, h2_at, d3_at]
  simp only [Finset.sum_range_succ, Finset.sum_range_zero, zero_add]

/-- The largest of the third linear map's results over a batch's points. -/
def top3 (A : Data) (b : ℕ) (o : Fin 64) : EReal := (Finset.univ : Finset (Fin 32768)).fold max ⊥ fun n => ((A.d3 b o n : ℝ) : EReal)

theorem row0 (H : Holds A g X) (s : St Ideal) (hs : Holds1 A s) (ht : Holds2 A s) (o : Fin 64) :
    k1_pay40 (F := Ideal) (k1_pay39 (blkAt X.d ![0, 0, 0] inb_S4x32x32768_S1x32x32768_0_0_0) s.a1 s.c1 s.w1 s.c2 X.W2) (ix3 0 o 0) = top3 A (g + 0) o := by
  pointwise [k1_pay40, k1_pay39, k1_pay35, k1_pay36]
  simp only [blkAt_at H 0 (by omega), hs.a1, hs.c1, ht.w1, ht.c2, H.W2,
    ← EReal.coe_mul, ← EReal.coe_add, relu, coe_sum, zero_add, h2_at, d3_at, ofBits_bot]
  rfl

theorem row1 (H : Holds A g X) (s : St Ideal) (hs : Holds1 A s) (ht : Holds2 A s) (o : Fin 64) :
    k1_pay46 (F := Ideal) (k1_pay45 (blkAt X.d ![1, 0, 0] inb_S4x32x32768_S1x32x32768_1_0_0) s.a1 s.c1 s.w1 s.c2 X.W2) (ix3 0 o 0) = top3 A (g + 1) o := by
  pointwise [k1_pay46, k1_pay45, k1_pay41, k1_pay42]
  simp only [blkAt_at H 1 (by omega), hs.a1, hs.c1, ht.w1, ht.c2, H.W2,
    ← EReal.coe_mul, ← EReal.coe_add, relu, coe_sum, zero_add, h2_at, d3_at, ofBits_bot]
  rfl

theorem row2 (H : Holds A g X) (s : St Ideal) (hs : Holds1 A s) (ht : Holds2 A s) (o : Fin 64) :
    k1_pay52 (F := Ideal) (k1_pay51 (blkAt X.d ![2, 0, 0] inb_S4x32x32768_S1x32x32768_2_0_0) s.a1 s.c1 s.w1 s.c2 X.W2) (ix3 0 o 0) = top3 A (g + 2) o := by
  pointwise [k1_pay52, k1_pay51, k1_pay47, k1_pay48]
  simp only [blkAt_at H 2 (by omega), hs.a1, hs.c1, ht.w1, ht.c2, H.W2,
    ← EReal.coe_mul, ← EReal.coe_add, relu, coe_sum, zero_add, h2_at, d3_at, ofBits_bot]
  rfl

theorem row3 (H : Holds A g X) (s : St Ideal) (hs : Holds1 A s) (ht : Holds2 A s) (o : Fin 64) :
    k1_pay8 (F := Ideal) (k1_pay57 (blkAt X.d ![3, 0, 0] inb_S4x32x32768_S1x32x32768_3_0_0) s.a1 s.c1 s.w1 s.c2 X.W2) (ix3 0 o 0) = top3 A (g + 3) o := by
  pointwise [k1_pay8, k1_pay57, k1_pay53, k1_pay54]
  simp only [blkAt_at H 3 (by omega), hs.a1, hs.c1, ht.w1, ht.c2, H.W2,
    ← EReal.coe_mul, ← EReal.coe_add, relu, coe_sum, zero_add, h2_at, d3_at, ofBits_bot]
  rfl

/-- A row that is put in reads there, -/
theorem put_row_in (x : FVec Ideal S16x64x1 .f32) (r : ℕ) (w : FVec Ideal S1x64x1 .f32) (b : Fin 16) (o : Fin 64) (h : b.val = r) :
    VecWindow.put (s := S16x64x1) x ![r, 0, 0] ![1, 64, 1] w (ix3 b o 0) = w (ix3 0 o 0) := by
  subst h
  unfold VecWindow.put
  rw [dif_pos]
  · refine congrArg w ?_
    funext a
    refine Fin.ext ?_
    fin_cases a
    · exact Nat.sub_self _
    · exact Nat.sub_zero _
    · rfl
  · intro a
    fin_cases a
    · exact ⟨le_rfl, Nat.lt_succ_self _⟩
    · exact ⟨Nat.zero_le _, o.isLt.trans_eq (Nat.zero_add 64).symm⟩
    · exact ⟨le_rfl, Nat.one_pos⟩

/-- and the others read as before. -/
theorem put_row_out (x : FVec Ideal S16x64x1 .f32) (r : ℕ) (w : FVec Ideal S1x64x1 .f32) (b : Fin 16) (o : Fin 64) (h : b.val ≠ r) :
    VecWindow.put (s := S16x64x1) x ![r, 0, 0] ![1, 64, 1] w (ix3 b o 0) = x (ix3 b o 0) := by
  unfold VecWindow.put
  rw [dif_neg]
  intro hj
  have := hj 0
  have h1 : r ≤ b.val ∧ b.val < r + 1 := this
  omega

/-- The maxima after a point of the second pass: those of its four batches are new. -/
theorem pass1_mx (hg : g = 4 * (i 1).val) (H : Holds A g X) (s : St Ideal) (hs : Holds1 A s) (ht : Holds2 A s)
    (hm : ∀ (b : Fin 16) (o : Fin 64), b.val < g → s.mx (ix3 b o 0) = top3 A b o)
    (b : Fin 16) (o : Fin 64) (hb : b.val < g + 4) : (pass1 i X s).mx (ix3 b o 0) = top3 A b o := by
  dsimp only [pass1, putRows]
  rw [← hg]
  by_cases h3 : b.val = g + 3
  · rw [put_row_in _ _ _ _ _ h3, row3 H s hs ht, h3]
  rw [put_row_out _ _ _ _ _ h3]
  by_cases h2 : b.val = g + 2
  · rw [put_row_in _ _ _ _ _ h2, row2 H s hs ht, h2]
  rw [put_row_out _ _ _ _ _ h2]
  by_cases h1 : b.val = g + 1
  · rw [put_row_in _ _ _ _ _ h1, row1 H s hs ht, h1]
  rw [put_row_out _ _ _ _ _ h1]
  by_cases h0 : b.val = g + 0
  · rw [put_row_in _ _ _ _ _ h0, row0 H s hs ht, h0]
  rw [put_row_out _ _ _ _ _ h0]
  exact hm b o (by omega)

/-- The sums and the maxima that the second pass makes are whole. -/
structure Whole3 (A : Data) (s : St Ideal) : Prop where
  sh : ∀ o : Fin 32, s.sh2 (ix2 o 0) = ((sum1 A.h2 o : ℝ) : EReal)
  sq : ∀ o : Fin 64, s.sq3 (ix2 o 0) = ((sum2 A.d3 o : ℝ) : EReal)
  mx : ∀ (b : Fin 16) (o : Fin 64), s.mx (ix3 b o 0) = top3 A b o

/-- The result. -/
theorem made_at (H : Holds A g X) (s : St Ideal) (hs : Whole3 A s) (b : Fin 16) (o : Fin 64) :
    made X s (ix3 b o 0) = max (((A.a3 o : ℝ) : EReal) * (top3 A b o + ((A.b2 o : ℝ) : EReal))
      + (X.e2 (ix2 o 0) - ((A.m3 o : ℝ) : EReal) * ((A.a3 o : ℝ) : EReal))) 0 := by
  unfold made
  pointwise [k1_pay11, k1_pay62, k1_pay63, k1_pay64, k1_pay58, k1_pay59, k1_pay60, k1_pay61]
  have hW : ∑ k, X.W2 (ix2 o k) * s.sh2 (ix2 k 0) = ((sum1 A.d3 o : ℝ) : EReal) := by
    simp only [hs.sh, H.W2, ← EReal.coe_mul, coe_sum]
    exact congrArg _ (sum1_lin A.W2 A.h2 o).symm
  simp only [zero_add, hW, hs.sq, hs.mx, H.b2, H.g2, ofBits_cnt, ofBits_two, ofBits_eps, mean_word]
  rw [scale_word (sum1 A.d3 o) (sum2 A.d3 o) _ _ (under_pos (fun b n => A.d3 b o n) (A.b2 o))]
  rfl

end Cert.KernelIdeal.Mlp
-- ==== Proof.Value.MlpArr.lean ====
/- What the second launch leaves in its result array, over the reals. -/
module

public import proofs.«01_k».proof.Proof.KernelIdeal.MlpRegion
public import proofs.«01_k».proof.Proof.Value.Mlp
public import Idealize.ShloMosaic.Lib.Pipeline.ValueKit

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.ShloMosaic.Pipeline (Dat)
open Cert.Maths Cert.Words

variable (V : Dev nD → Valuation τ sig (Elt Ideal)) (c : Dev nD)

/-- The arrays that the second launch reads hold real data, but for the last shift. -/
structure Arrays (A : Data) : Prop where
  d : ∀ (b : Fin 16) (o : Fin 32) (n : Fin 32768), (show FVec Ideal S16x32x32768 .bf16 from V c main_v2_1) (ix3 b o n) = ((A.d1 b o n : ℝ) : EReal)
  s : ∀ o : Fin 32, (show FVec Ideal S32x2 .f32 from V c main_v2_0) (ix2 o 0) = ((sum1 A.d1 o : ℝ) : EReal)
  q : ∀ o : Fin 32, (show FVec Ideal S32x2 .f32 from V c main_v2_0) (ix2 o 1) = ((sum2 A.d1 o : ℝ) : EReal)
  b0 : ∀ o : Fin 32, (show FVec Ideal S32x1 .f32 from V c main_v3) (ix2 o 0) = ((A.b0 o : ℝ) : EReal)
  g0 : ∀ o : Fin 32, (show FVec Ideal S32x1 .f32 from V c main_v4) (ix2 o 0) = ((A.g0 o : ℝ) : EReal)
  e0 : ∀ o : Fin 32, (show FVec Ideal S32x1 .f32 from V c main_v5) (ix2 o 0) = ((A.e0 o : ℝ) : EReal)
  W1 : ∀ o k : Fin 32, (show FVec Ideal S32x32 .f32 from V c main_arg6) (ix2 o k) = ((A.W1 o k : ℝ) : EReal)
  b1 : ∀ o : Fin 32, (show FVec Ideal S32x1 .f32 from V c main_v6) (ix2 o 0) = ((A.b1 o : ℝ) : EReal)
  g1 : ∀ o : Fin 32, (show FVec Ideal S32x1 .f32 from V c main_v7) (ix2 o 0) = ((A.g1 o : ℝ) : EReal)
  e1 : ∀ o : Fin 32, (show FVec Ideal S32x1 .f32 from V c main_v8) (ix2 o 0) = ((A.e1 o : ℝ) : EReal)
  W2 : ∀ (o : Fin 64) (k : Fin 32), (show FVec Ideal S64x32 .f32 from V c main_arg10) (ix2 o k) = ((A.W2 o k : ℝ) : EReal)
  b2 : ∀ o : Fin 64, (show FVec Ideal S64x1 .f32 from V c main_v9) (ix2 o 0) = ((A.b2 o : ℝ) : EReal)
  g2 : ∀ o : Fin 64, (show FVec Ideal S64x1 .f32 from V c main_v10) (ix2 o 0) = ((A.g2 o : ℝ) : EReal)

theorem idx : ∀ t : Fin cfg1.N, (win1_0.index t = ![t.val % 4, 0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![0, 0]
    ∧ win1_9.index t = ![0, 0] ∧ win1_10.index t = ![0, 0] ∧ win1_11.index t = ![0, 0] ∧ win1_12.index t = ![0, 0]) ∧ win1_13.index t = ![0, 0, 0] :=
  (by decide +kernel : ∀ t : Fin grid1.N, _)

variable {A : Data}

/-! Each of these windows' blocks is its whole array. -/

theorem whole1 (t : Fin cfg1.N) : (iblk V c 1 t : FVec Ideal S32x2 .f32) = (show FVec Ideal S32x2 .f32 from V c main_v2_0) := by
  have h := (idx t).1.2.1
  blk_ext! [iblk, h]
theorem whole2 (t : Fin cfg1.N) : (iblk V c 2 t : FVec Ideal S32x1 .f32) = (show FVec Ideal S32x1 .f32 from V c main_v3) := by
  have h := (idx t).1.2.2.1
  blk_ext! [iblk, h]
theorem whole3 (t : Fin cfg1.N) : (iblk V c 3 t : FVec Ideal S32x1 .f32) = (show FVec Ideal S32x1 .f32 from V c main_v4) := by
  have h := (idx t).1.2.2.2.1
  blk_ext! [iblk, h]
theorem whole4 (t : Fin cfg1.N) : (iblk V c 4 t : FVec Ideal S32x1 .f32) = (show FVec Ideal S32x1 .f32 from V c main_v5) := by
  have h := (idx t).1.2.2.2.2.1
  blk_ext! [iblk, h]
theorem whole5 (t : Fin cfg1.N) : (iblk V c 5 t : FVec Ideal S32x32 .f32) = (show FVec Ideal S32x32 .f32 from V c main_arg6) := by
  have h := (idx t).1.2.2.2.2.2.1
  blk_ext! [iblk, h]
theorem whole6 (t : Fin cfg1.N) : (iblk V c 6 t : FVec Ideal S32x1 .f32) = (show FVec Ideal S32x1 .f32 from V c main_v6) := by
  have h := (idx t).1.2.2.2.2.2.2.1
  blk_ext! [iblk, h]
theorem whole7 (t : Fin cfg1.N) : (iblk V c 7 t : FVec Ideal S32x1 .f32) = (show FVec Ideal S32x1 .f32 from V c main_v7) := by
  have h := (idx t).1.2.2.2.2.2.2.2.1
  blk_ext! [iblk, h]
theorem whole8 (t : Fin cfg1.N) : (iblk V c 8 t : FVec Ideal S32x1 .f32) = (show FVec Ideal S32x1 .f32 from V c main_v8) := by
  have h := (idx t).1.2.2.2.2.2.2.2.2.1
  blk_ext! [iblk, h]
theorem whole9 (t : Fin cfg1.N) : (iblk V c 9 t : FVec Ideal S64x32 .f32) = (show FVec Ideal S64x32 .f32 from V c main_arg10) := by
  have h := (idx t).1.2.2.2.2.2.2.2.2.2.1
  blk_ext! [iblk, h]
theorem whole10 (t : Fin cfg1.N) : (iblk V c 10 t : FVec Ideal S64x1 .f32) = (show FVec Ideal S64x1 .f32 from V c main_v9) := by
  have h := (idx t).1.2.2.2.2.2.2.2.2.2.2.1
  blk_ext! [iblk, h]
theorem whole11 (t : Fin cfg1.N) : (iblk V c 11 t : FVec Ideal S64x1 .f32) = (show FVec Ideal S64x1 .f32 from V c main_v10) := by
  have h := (idx t).1.2.2.2.2.2.2.2.2.2.2.2.1
  blk_ext! [iblk, h]
theorem whole12 (t : Fin cfg1.N) : (iblk V c 12 t : FVec Ideal S64x1 .f32) = (show FVec Ideal S64x1 .f32 from V c main_v11) := by
  have h := (idx t).1.2.2.2.2.2.2.2.2.2.2.2.2
  blk_ext! [iblk, h]

theorem blocks (H : Arrays V c A) (t : Fin cfg1.N) : Holds A (4 * (t.val % 4)) (ins V c t) where
  d i o n := by
    have i0 := (idx t).1.1
    have h4 : t.val % 4 < 4 := Nat.mod_lt _ (by omega)
    refine Eq.trans ?_ (H.d ⟨4 * (t.val % 4) + i.val, by omega⟩ o n)
    dsimp only [ins]
    blk_ext [iblk, i0]
  s o := (congrFun (whole1 V c t) _).trans (H.s o)
  q o := (congrFun (whole1 V c t) _).trans (H.q o)
  b0 o := (congrFun (whole2 V c t) _).trans (H.b0 o)
  g0 o := (congrFun (whole3 V c t) _).trans (H.g0 o)
  e0 o := (congrFun (whole4 V c t) _).trans (H.e0 o)
  W1 o k := (congrFun (whole5 V c t) _).trans (H.W1 o k)
  b1 o := (congrFun (whole6 V c t) _).trans (H.b1 o)
  g1 o := (congrFun (whole7 V c t) _).trans (H.g1 o)
  e1 o := (congrFun (whole8 V c t) _).trans (H.e1 o)
  W2 o k := (congrFun (whole9 V c t) _).trans (H.W2 o k)
  b2 o := (congrFun (whole10 V c t) _).trans (H.b2 o)
  g2 o := (congrFun (whole11 V c t) _).trans (H.g2 o)

/-- The state after `n` points of the first pass. -/
structure First (A : Data) (n : ℕ) (s : St Ideal) : Prop where
  one : Holds1 A s
  sd : ∀ o : Fin 32, s.sd2 (ix2 o 0) = ((∑ b ∈ Finset.range (4 * n), ∑ k, A.d2 b o k : ℝ) : EReal)
  sq : ∀ o : Fin 32, s.sq2 (ix2 o 0) = ((∑ b ∈ Finset.range (4 * n), ∑ k, A.d2 b o k * A.d2 b o k : ℝ) : EReal)
  sh : ∀ o : Fin 32, s.sh2 (ix2 o 0) = 0
  s3 : ∀ o : Fin 64, s.sq3 (ix2 o 0) = 0

/-- The state after `n` points of the second pass. -/
structure Second (A : Data) (n : ℕ) (s : St Ideal) : Prop where
  one : Holds1 A s
  two : Holds2 A s
  sh : ∀ o : Fin 32, s.sh2 (ix2 o 0) = ((∑ b ∈ Finset.range (4 * n), ∑ k, A.h2 b o k : ℝ) : EReal)
  sq : ∀ o : Fin 64, s.sq3 (ix2 o 0) = ((∑ b ∈ Finset.range (4 * n), ∑ k, A.d3 b o k * A.d3 b o k : ℝ) : EReal)
  mx : ∀ (b : Fin 16) (o : Fin 64), b.val < 4 * n → s.mx (ix3 b o 0) = top3 A b o

/-- What the first point does to the state before it adds its own sums. -/
theorem clear_first {g : ℕ} {X : Ins Ideal} (H : Holds A g X) (s : St Ideal) : First A 0 (clear X s) where
  one := ⟨scale1_at H, shift1_at H⟩
  sd o := by dsimp only [clear]; pointwise [k1_pay12]; simp
  sq o := by dsimp only [clear]; pointwise [k1_pay13]; simp
  sh o := by dsimp only [clear]; pointwise [k1_pay14]
  s3 o := by dsimp only [clear]; pointwise [k1_pay15]

/-- A point of the first pass adds its four batches. -/
theorem pass0_first {n : ℕ} {X : Ins Ideal} (H : Holds A (4 * n) X) (s : St Ideal) (h : First A n s) : First A (n + 1) (pass0 X s) where
  one := ⟨h.one.a1, h.one.c1⟩
  sd o := by rw [pass0_sd2 H s h.one, h.sd, ← EReal.coe_add, ← Finset.sum_range_add]; rfl
  sq o := by rw [pass0_sq2 H s h.one, h.sq, ← EReal.coe_add, ← Finset.sum_range_add]; rfl
  sh := h.sh
  s3 := h.s3

/-- What the second pass's first point does to the state before it adds its own sums. -/
theorem fold_second {g : ℕ} {X : Ins Ideal} (H : Holds A g X) (s : St Ideal) (h : First A 4 s) : Second A 0 (fold X s) where
  one := ⟨h.one.a1, h.one.c1⟩
  two := fold_holds H s ⟨h.sd, h.sq⟩
  sh o := by dsimp only [fold]; simpa using h.sh o
  sq o := by dsimp only [fold]; simpa using h.s3 o
  mx b o hb := absurd hb (by omega)

/-- A point of the second pass adds its four batches. -/
theorem pass1_second {n : ℕ} {X : Ins Ideal} (i : grid1.Coords) (hi : (i 1).val = n) (H : Holds A (4 * n) X) (s : St Ideal) (h : Second A n s) :
    Second A (n + 1) (pass1 i X s) where
  one := ⟨h.one.a1, h.one.c1⟩
  two := ⟨h.two.w1, h.two.c2⟩
  sh o := by rw [pass1_sh2 i H s h.one h.two, h.sh, ← EReal.coe_add, ← Finset.sum_range_add]; rfl
  sq o := by rw [pass1_sq3 i H s h.one h.two, h.sq, ← EReal.coe_add, ← Finset.sum_range_add]; rfl
  mx b o hb := pass1_mx i (by rw [hi]) H s h.one h.two h.mx b o hb

/-- The state after the points of the first pass, -/
theorem first_pass (H : Arrays V c A) (s : St Ideal) : ∀ n < 4, First A (n + 1) (runTo V c s (n + 1)) := by
  intro n
  induction n with
  | zero =>
    intro _
    have hlt : 0 < cfg1.N := lt_of_lt_of_eq (by omega : 0 < 8) (show 8 = cfg1.N from N_1.symm)
    have h := runTo_succ V c s ⟨0, hlt⟩
    dsimp only at h
    rw [h, step, if_pos ((pass0_iff ⟨0, hlt⟩).mpr (by simp)), if_pos ((first_iff ⟨0, hlt⟩).mpr rfl)]
    exact pass0_first (blocks V c H ⟨0, hlt⟩) _ (clear_first (blocks V c H ⟨0, hlt⟩) _)
  | succ n ih =>
    intro hn
    have hlt : n + 1 < cfg1.N := lt_of_lt_of_eq (by omega : n + 1 < 8) (show 8 = cfg1.N from N_1.symm)
    have h := runTo_succ V c s ⟨n + 1, hlt⟩
    dsimp only at h
    rw [h, step, if_pos ((pass0_iff ⟨n + 1, hlt⟩).mpr hn), if_neg (fun q => absurd ((first_iff ⟨n + 1, hlt⟩).mp q) (Nat.succ_ne_zero n))]
    have hb := blocks V c H ⟨n + 1, hlt⟩
    dsimp only at hb
    rw [Nat.mod_eq_of_lt hn] at hb
    exact pass0_first hb _ (ih (by omega))

/-- and of the second. -/
theorem second_pass (H : Arrays V c A) (s : St Ideal) : ∀ n < 4, Second A (n + 1) (runTo V c s (n + 5)) := by
  intro n
  induction n with
  | zero =>
    intro _
    have hlt : 4 < cfg1.N := lt_of_lt_of_eq (by omega : 4 < 8) (show 8 = cfg1.N from N_1.symm)
    have h := runTo_succ V c s ⟨4, hlt⟩
    dsimp only at h
    rw [h, step, if_neg (fun q => absurd ((pass0_iff ⟨4, hlt⟩).mp q) (by simp)), if_pos ((fold_iff ⟨4, hlt⟩).mpr rfl)]
    have e : 4 % 4 = 0 := rfl
    have hb := blocks V c H ⟨4, hlt⟩
    dsimp only at hb
    rw [e] at hb
    exact pass1_second (n := 0) _ ((coords1 ⟨4, hlt⟩).trans e) hb _ (fold_second (blocks V c H ⟨4, hlt⟩) _ (first_pass V c H s 3 (by omega)))
  | succ n ih =>
    intro hn
    have hlt : n + 5 < cfg1.N := lt_of_lt_of_eq (by omega : n + 5 < 8) (show 8 = cfg1.N from N_1.symm)
    have h := runTo_succ V c s ⟨n + 5, hlt⟩
    dsimp only at h
    have h' : runTo V c s (n + 1 + 5) = _ := h
    rw [h', step, if_neg (fun q => absurd ((pass0_iff ⟨n + 5, hlt⟩).mp q) (by simp)), if_neg (fun q => absurd ((fold_iff ⟨n + 5, hlt⟩).mp q) (by simp))]
    have e : (n + 5) % 4 = n + 1 := by omega
    have hb := blocks V c H ⟨n + 5, hlt⟩
    dsimp only at hb
    rw [e] at hb
    exact pass1_second _ ((coords1 ⟨n + 5, hlt⟩).trans e) hb _ (ih (by omega))

/-- The result array after the second launch. -/
theorem result_at (H : Arrays V c A) (b : Fin 16) (o : Fin 64) :
    (show FVec Ideal S16x64x1 .f32 from (dat V c).arrAt 13 cfg1.N) (ix3 b o 0)
      = max (((A.a3 o : ℝ) : EReal) * (top3 A b o + ((A.b2 o : ℝ) : EReal))
          + ((show FVec Ideal S64x1 .f32 from V c main_v11) (ix2 o 0) - ((A.m3 o : ℝ) : EReal) * ((A.a3 o : ℝ) : EReal))) 0 := by
  have e : (dat V c).arrAt 13 cfg1.N = (made (ins V c t1_7) (runTo V c st0 8) : FVec Ideal S16x64x1 .f32) := by
    refine (dat V c).arrAt_eq_of_after_last 13 t1_7 (by decide +kernel) _ fun j => ?_
    blk_simp
    rw [after13]
    have e : (t1_7 : Fin cfg1.N).val + 1 = 8 := by decide +kernel
    rw [e]
  have h := second_pass V c H st0 3 (by omega)
  rw [e]
  refine (made_at (blocks V c H t1_7) _ ⟨h.sh, h.sq, fun b o => h.mx b o (by omega)⟩ b o).trans ?_
  rw [show (ins V c t1_7).e2 (ix2 o 0) = (show FVec Ideal S64x1 .f32 from V c main_v11) (ix2 o 0) from congrFun (whole12 V c t1_7) _]

end Cert.KernelIdeal.Mlp
-- ==== Proof.Value.Args.lean ====
/- What it means that the arguments of a program are real numbers. -/
module

public import proofs.«01_k».proof.Proof.Value.Maths
public import Idealize.ShloMosaic.PureOps.Ideal
public import Idealize.ShloMosaic.Lib.Pointwise

@[expose] public section

noncomputable section

namespace Cert.Inputs

open Idealize.ShloMosaic Cert.Maths

variable (x0 : FVec Ideal ⟨3, ![16, 3, 32768]⟩ .f32) (x1 : FVec Ideal ⟨3, ![16, 29, 32768]⟩ .f32) (x2 : FVec Ideal ⟨2, ![32, 32]⟩ .f32)
  (x3 x4 x5 : FVec Ideal ⟨1, ![32]⟩ .f32) (x6 : FVec Ideal ⟨2, ![32, 32]⟩ .f32) (x7 x8 x9 : FVec Ideal ⟨1, ![32]⟩ .f32)
  (x10 : FVec Ideal ⟨2, ![64, 32]⟩ .f32) (x11 x12 : FVec Ideal ⟨1, ![64]⟩ .f32)

/-- The arguments hold real data, but for the last shift. -/
structure Args (A : Data) : Prop where
  h0 : ∀ (b : Fin 16) (k : Fin 3) (n : Fin 32768), x0 (ix3 b k n) = ((A.x b ⟨k.val, by omega⟩ n : ℝ) : EReal)
  h1 : ∀ (b : Fin 16) (k : Fin 29) (n : Fin 32768), x1 (ix3 b k n) = ((A.x b ⟨3 + k.val, by omega⟩ n : ℝ) : EReal)
  h2 : ∀ o k : Fin 32, x2 (ix2 o k) = ((A.W0 o k : ℝ) : EReal)
  h3 : ∀ o : Fin 32, x3 (ix1 o) = ((A.b0 o : ℝ) : EReal)
  h4 : ∀ o : Fin 32, x4 (ix1 o) = ((A.g0 o : ℝ) : EReal)
  h5 : ∀ o : Fin 32, x5 (ix1 o) = ((A.e0 o : ℝ) : EReal)
  h6 : ∀ o k : Fin 32, x6 (ix2 o k) = ((A.W1 o k : ℝ) : EReal)
  h7 : ∀ o : Fin 32, x7 (ix1 o) = ((A.b1 o : ℝ) : EReal)
  h8 : ∀ o : Fin 32, x8 (ix1 o) = ((A.g1 o : ℝ) : EReal)
  h9 : ∀ o : Fin 32, x9 (ix1 o) = ((A.e1 o : ℝ) : EReal)
  h10 : ∀ (o : Fin 64) (k : Fin 32), x10 (ix2 o k) = ((A.W2 o k : ℝ) : EReal)
  h11 : ∀ o : Fin 64, x11 (ix1 o) = ((A.b2 o : ℝ) : EReal)
  h12 : ∀ o : Fin 64, x12 (ix1 o) = ((A.g2 o : ℝ) : EReal)
  pos : ∀ o : Fin 64, 0 ≤ A.g2 o

end Cert.Inputs

end
-- ==== Proof.Value.Whole.lean ====
/- What the kernel's two results hold at the end, over the reals. -/
module

public import proofs.«01_k».proof.Proof.KernelIdeal.Whole
public import proofs.«01_k».proof.Proof.Value.PackArr
public import proofs.«01_k».proof.Proof.Value.MlpArr
public import proofs.«01_k».proof.Proof.Value.Args

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.StableHlo
open Cert.Maths Cert.Words Cert.Inputs

variable (m : (ℓ : Loc nD τ sig) → Buf (Elt Ideal) ℓ) (c : Dev nD)

/-- An argument's contents at launch. -/
abbrev inp (r : Ref sig .tc) := m ((c.tc : Thread nD τ).loc r)

/-- The arguments at launch hold real data, but for the last shift. -/
abbrev Real (A : Data) : Prop :=
  Inputs.Args (inp m c main_arg0) (inp m c main_arg1) (inp m c main_arg2) (inp m c main_arg3) (inp m c main_arg4) (inp m c main_arg5)
    (inp m c main_arg6) (inp m c main_arg7) (inp m c main_arg8) (inp m c main_arg9) (inp m c main_arg10) (inp m c main_arg11) (inp m c main_arg12) A

/-! ## The host's operations -/

section Host
variable (V : Valuation τ sig (Elt Ideal))

theorem host0_v0 (o : Fin 32) (k : Fin 3) : (show FVec Ideal S32x3 .f32 from after hostOps0 V (Proc.devRef .tc main_v0)) (ix2 o k)
    = (show FVec Ideal S32x32 .f32 from V (Proc.devRef .tc main_arg2)) (ix2 o ⟨k.val, by omega⟩) := by
  have h : (show FVec Ideal S32x3 .f32 from after hostOps0 V (Proc.devRef .tc main_v0))
      = extractStridedSlice S32x3 ![0, 0] (show FVec Ideal S32x32 .f32 from V (Proc.devRef .tc main_arg2)) slices_S32x32_S32x3_0_0 := by
    after_results_simp
  rw [h]; pointwise []
theorem host0_v1 (o : Fin 32) (k : Fin 29) : (show FVec Ideal S32x29 .f32 from after hostOps0 V (Proc.devRef .tc main_v1)) (ix2 o k)
    = (show FVec Ideal S32x32 .f32 from V (Proc.devRef .tc main_arg2)) (ix2 o ⟨3 + k.val, by omega⟩) := by
  have h : (show FVec Ideal S32x29 .f32 from after hostOps0 V (Proc.devRef .tc main_v1))
      = extractStridedSlice S32x29 ![0, 3] (show FVec Ideal S32x32 .f32 from V (Proc.devRef .tc main_arg2)) slices_S32x32_S32x29_0_3 := by
    after_results_simp
  rw [h]; pointwise []
theorem column32 (x : FVec Ideal S32 .f32) (o : Fin 32) : shapeCast S32x1 x shapeCasts_S32_S32x1 (ix2 o 0) = x (ix1 o) := by pointwise []
theorem column64 (x : FVec Ideal S64 .f32) (o : Fin 64) : shapeCast S64x1 x shapeCasts_S64_S64x1 (ix2 o 0) = x (ix1 o) := by pointwise []
theorem host1_v3 (o : Fin 32) : (show FVec Ideal S32x1 .f32 from after hostOps1 V (Proc.devRef .tc main_v3)) (ix2 o 0)
    = (show FVec Ideal S32 .f32 from V (Proc.devRef .tc main_arg3)) (ix1 o) := by
  have h : (show FVec Ideal S32x1 .f32 from after hostOps1 V (Proc.devRef .tc main_v3))
      = shapeCast S32x1 (show FVec Ideal S32 .f32 from V (Proc.devRef .tc main_arg3)) shapeCasts_S32_S32x1 := by
    after_results_simp; rfl
  rw [h]; exact column32 _ o
theorem host1_v4 (o : Fin 32) : (show FVec Ideal S32x1 .f32 from after hostOps1 V (Proc.devRef .tc main_v4)) (ix2 o 0)
    = (show FVec Ideal S32 .f32 from V (Proc.devRef .tc main_arg4)) (ix1 o) := by
  have h : (show FVec Ideal S32x1 .f32 from after hostOps1 V (Proc.devRef .tc main_v4))
      = shapeCast S32x1 (show FVec Ideal S32 .f32 from V (Proc.devRef .tc main_arg4)) shapeCasts_S32_S32x1 := by
    after_results_simp; rfl
  rw [h]; exact column32 _ o
theorem host1_v5 (o : Fin 32) : (show FVec Ideal S32x1 .f32 from after hostOps1 V (Proc.devRef .tc main_v5)) (ix2 o 0)
    = (show FVec Ideal S32 .f32 from V (Proc.devRef .tc main_arg5)) (ix1 o) := by
  have h : (show FVec Ideal S32x1 .f32 from after hostOps1 V (Proc.devRef .tc main_v5))
      = shapeCast S32x1 (show FVec Ideal S32 .f32 from V (Proc.devRef .tc main_arg5)) shapeCasts_S32_S32x1 := by
    after_results_simp; rfl
  rw [h]; exact column32 _ o
theorem host1_v6 (o : Fin 32) : (show FVec Ideal S32x1 .f32 from after hostOps1 V (Proc.devRef .tc main_v6)) (ix2 o 0)
    = (show FVec Ideal S32 .f32 from V (Proc.devRef .tc main_arg7)) (ix1 o) := by
  have h : (show FVec Ideal S32x1 .f32 from after hostOps1 V (Proc.devRef .tc main_v6))
      = shapeCast S32x1 (show FVec Ideal S32 .f32 from V (Proc.devRef .tc main_arg7)) shapeCasts_S32_S32x1 := by
    after_results_simp; rfl
  rw [h]; exact column32 _ o
theorem host1_v7 (o : Fin 32) : (show FVec Ideal S32x1 .f32 from after hostOps1 V (Proc.devRef .tc main_v7)) (ix2 o 0)
    = (show FVec Ideal S32 .f32 from V (Proc.devRef .tc main_arg8)) (ix1 o) := by
  have h : (show FVec Ideal S32x1 .f32 from after hostOps1 V (Proc.devRef .tc main_v7))
      = shapeCast S32x1 (show FVec Ideal S32 .f32 from V (Proc.devRef .tc main_arg8)) shapeCasts_S32_S32x1 := by
    after_results_simp; rfl
  rw [h]; exact column32 _ o
theorem host1_v8 (o : Fin 32) : (show FVec Ideal S32x1 .f32 from after hostOps1 V (Proc.devRef .tc main_v8)) (ix2 o 0)
    = (show FVec Ideal S32 .f32 from V (Proc.devRef .tc main_arg9)) (ix1 o) := by
  have h : (show FVec Ideal S32x1 .f32 from after hostOps1 V (Proc.devRef .tc main_v8))
      = shapeCast S32x1 (show FVec Ideal S32 .f32 from V (Proc.devRef .tc main_arg9)) shapeCasts_S32_S32x1 := by
    after_results_simp; rfl
  rw [h]; exact column32 _ o
theorem host1_v9 (o : Fin 64) : (show FVec Ideal S64x1 .f32 from after hostOps1 V (Proc.devRef .tc main_v9)) (ix2 o 0)
    = (show FVec Ideal S64 .f32 from V (Proc.devRef .tc main_arg11)) (ix1 o) := by
  have h : (show FVec Ideal S64x1 .f32 from after hostOps1 V (Proc.devRef .tc main_v9))
      = shapeCast S64x1 (show FVec Ideal S64 .f32 from V (Proc.devRef .tc main_arg11)) shapeCasts_S64_S64x1 := by
    after_results_simp; rfl
  rw [h]; exact column64 _ o
theorem host1_v10 (o : Fin 64) : (show FVec Ideal S64x1 .f32 from after hostOps1 V (Proc.devRef .tc main_v10)) (ix2 o 0)
    = (show FVec Ideal S64 .f32 from V (Proc.devRef .tc main_arg12)) (ix1 o) := by
  have h : (show FVec Ideal S64x1 .f32 from after hostOps1 V (Proc.devRef .tc main_v10))
      = shapeCast S64x1 (show FVec Ideal S64 .f32 from V (Proc.devRef .tc main_arg12)) shapeCasts_S64_S64x1 := by
    after_results_simp; rfl
  rw [h]; exact column64 _ o
theorem host1_v11 (o : Fin 64) : (show FVec Ideal S64x1 .f32 from after hostOps1 V (Proc.devRef .tc main_v11)) (ix2 o 0)
    = (show FVec Ideal S64 .f32 from V (Proc.devRef .tc main_arg13)) (ix1 o) := by
  have h : (show FVec Ideal S64x1 .f32 from after hostOps1 V (Proc.devRef .tc main_v11))
      = shapeCast S64x1 (show FVec Ideal S64 .f32 from V (Proc.devRef .tc main_arg13)) shapeCasts_S64_S64x1 := by
    after_results_simp; rfl
  rw [h]; exact column64 _ o
theorem host2_v13 : after hostOps2 V (Proc.devRef .tc main_v13) = broadcastInDim S16x3x1 ![] bcast_S_S16x3x1 (constant (F := Ideal) S_ .f32 0x00000000#32) := by
  after_results_simp

end Host

/-! ## The two launches -/

/-- An argument of the program is at the first launch as it was at the start. -/
theorem U1_arg (r : Ref sig .tc) (h0 : r ∉ hostOps0_W) : U1 m c (Proc.devRef .tc r) = inp m c r :=
  after_of_writes_sub hostOps0 _ hostOps0_writes h0

/-- An argument of the program is after the first launch as it was at the start. -/
theorem U2_arg (r : Ref sig .tc) (h0 : r ∉ hostOps0_W) (h3 : ∀ w, Pipeline.arrRef spec0 w = r → (cfg0.win w).isOut = false) :
    U2 m c (Proc.devRef .tc r) = inp m c r :=
  (Pipeline.afterRegion_keeps (Pack.dat (U1 m) c) (U1 m c) launch0.win.arr_inj (Pack.A_eq (U1 m) c) r h3).trans (U1_arg m c r h0)

/-- An argument of the program is at the second launch as it was at the start. -/
theorem U3_arg (r : Ref sig .tc) (h0 : r ∉ hostOps0_W) (h1 : r ∉ hostOps1_W) (h3 : ∀ w, Pipeline.arrRef spec0 w = r → (cfg0.win w).isOut = false) :
    U3 m c (Proc.devRef .tc r) = inp m c r :=
  (after_of_writes_sub hostOps1 _ hostOps1_writes h1).trans (U2_arg m c r h0 h3)

variable {m c} {A : Data} (H : Real m c A)
include H

theorem pack_arrays : Pack.Arrays (U1 m) c A where
  h0 b k n := (congrFun (U1_arg m c main_arg0 (by decide)) (ix3 b k n)).trans (H.h0 b k n)
  h1 b k n := (congrFun (U1_arg m c main_arg1 (by decide)) (ix3 b k n)).trans (H.h1 b k n)
  h2 o k := (host0_v0 (U0 m c) o k).trans (H.h2 o _)
  h3 o k := (host0_v1 (U0 m c) o k).trans (H.h2 o _)

theorem U3_d1 : U3 m c (Proc.devRef .tc main_v2_1) = fun j : S16x32x32768.Idx => ((A.d1 (j 0).val (j 1) (j 2) : ℝ) : EReal) :=
  (after_of_writes_sub hostOps1 _ hostOps1_writes (by decide)).trans
    ((Pipeline.afterRegion_arr (Pack.dat (U1 m) c) (U1 m c) launch0.win.arr_inj 5).trans (Pack.d1_eq (U1 m) c (pack_arrays H)))

omit H in
theorem U3_stats : U3 m c (Proc.devRef .tc main_v2_0) = (Pack.dat (U1 m) c).arrAt 4 cfg0.N :=
  (after_of_writes_sub hostOps1 _ hostOps1_writes (by decide)).trans
    (Pipeline.afterRegion_arr (Pack.dat (U1 m) c) (U1 m c) launch0.win.arr_inj 4)

theorem mlp_arrays : Mlp.Arrays (U3 m) c A where
  d b o n := congrFun (U3_d1 H) (ix3 b o n)
  s o := (congrFun (U3_stats (m := m) (c := c)) (ix2 o 0)).trans (Pack.sum_at (U1 m) c (pack_arrays H) o)
  q o := (congrFun (U3_stats (m := m) (c := c)) (ix2 o 1)).trans (Pack.sq_at (U1 m) c (pack_arrays H) o)
  b0 o := (host1_v3 (U2 m c) o).trans ((congrFun (U2_arg m c main_arg3 (by decide) (by decide)) (ix1 o)).trans (H.h3 o))
  g0 o := (host1_v4 (U2 m c) o).trans ((congrFun (U2_arg m c main_arg4 (by decide) (by decide)) (ix1 o)).trans (H.h4 o))
  e0 o := (host1_v5 (U2 m c) o).trans ((congrFun (U2_arg m c main_arg5 (by decide) (by decide)) (ix1 o)).trans (H.h5 o))
  W1 o k := (congrFun (U3_arg m c main_arg6 (by decide) (by decide) (by decide)) (ix2 o k)).trans (H.h6 o k)
  b1 o := (host1_v6 (U2 m c) o).trans ((congrFun (U2_arg m c main_arg7 (by decide) (by decide)) (ix1 o)).trans (H.h7 o))
  g1 o := (host1_v7 (U2 m c) o).trans ((congrFun (U2_arg m c main_arg8 (by decide) (by decide)) (ix1 o)).trans (H.h8 o))
  e1 o := (host1_v8 (U2 m c) o).trans ((congrFun (U2_arg m c main_arg9 (by decide) (by decide)) (ix1 o)).trans (H.h9 o))
  W2 o k := (congrFun (U3_arg m c main_arg10 (by decide) (by decide) (by decide)) (ix2 o k)).trans (H.h10 o k)
  b2 o := (host1_v9 (U2 m c) o).trans ((congrFun (U2_arg m c main_arg11 (by decide) (by decide)) (ix1 o)).trans (H.h11 o))
  g2 o := (host1_v10 (U2 m c) o).trans ((congrFun (U2_arg m c main_arg12 (by decide) (by decide)) (ix1 o)).trans (H.h12 o))

/-! ## The results -/

/-- The second result at the end. -/
theorem result_at (b : Fin 16) (o : Fin 64) : (show FVec Ideal S16x64x1 .f32 from U5 m c (Proc.devRef .tc main_v12)) (ix3 b o 0)
    = max (((A.a3 o : ℝ) : EReal) * (Mlp.top3 A b o + ((A.b2 o : ℝ) : EReal))
        + ((show FVec Ideal S64 .f32 from inp m c main_arg13) (ix1 o) - ((A.m3 o : ℝ) : EReal) * ((A.a3 o : ℝ) : EReal))) 0 := by
  have e : (show FVec Ideal S16x64x1 .f32 from U5 m c (Proc.devRef .tc main_v12)) = (Mlp.dat (U3 m) c).arrAt 13 cfg1.N :=
    (after_of_writes_sub hostOps2 _ hostOps2_writes (by decide)).trans
      (Pipeline.afterRegion_arr (Mlp.dat (U3 m) c) (U3 m c) launch1.win.arr_inj 13)
  have h13 : (show FVec Ideal S64x1 .f32 from U3 m c (Proc.devRef .tc main_v11)) (ix2 o 0) = (show FVec Ideal S64 .f32 from inp m c main_arg13) (ix1 o) :=
    (host1_v11 (U2 m c) o).trans (congrFun (U2_arg m c main_arg13 (by decide) (by decide)) (ix1 o))
  rw [← h13]
  exact (congrFun e (ix3 b o 0)).trans (Mlp.result_at (U3 m) c (mlp_arrays H) b o)

omit H in
/-- The first result at the end: zeros. -/
theorem zeros : (show FVec Ideal S16x3x1 .f32 from U5 m c (Proc.devRef .tc main_v13))
    = broadcastInDim S16x3x1 ![] bcast_S_S16x3x1 (constant (F := Ideal) S_ .f32 0x00000000#32) := host2_v13 (U4 m c)

end Cert.KernelIdeal.Whole

end
-- ==== Proof.Value.RefLayer.lean ====
/- One layer of the reference: the mean and the variance of each channel over all samples, and the normalisation by them,
   as real numbers when the layer's linear map and bias give real numbers. The number of channels is a parameter. -/
module

public import proofs.«01_k».proof.Proof.Value.Words
public import Idealize.ShloMosaic.Lib.IdealHost
public import Idealize.ShloMosaic.Lib.Pointwise

@[expose] public section

noncomputable section

namespace Cert.RefLayer

open Idealize.ShloMosaic Cert.Maths Cert.Words Finset

variable {m : ℕ}

/-- A layer's array: batch, channel, point, and an axis of one. -/
abbrev Full (m : ℕ) : Shape := ⟨4, ![16, m, 32768, 1]⟩
/-- One number for each channel, at the full rank. -/
abbrev Chan (m : ℕ) : Shape := ⟨4, ![1, m, 1, 1]⟩
/-- One number for each channel. -/
abbrev Flat (m : ℕ) : Shape := ⟨1, ![m]⟩
/-- One number. -/
abbrev One : Shape := ⟨0, ![]⟩

theorem flat_at {α : Type} (h : (Flat m).BroadcastsInDim (Chan m) ![1]) (x : (Flat m).Idx → α) (o : Fin m) :
    broadcastInDim (Chan m) ![1] h x (ix4 0 o 0 0) = x (ix1 o) :=
  broadcastInDim_apply _ h x _ _ fun a => match a with
    | ⟨0, _⟩ => by
      show o.val = if m = 1 then 0 else o.val
      split
      · omega
      · rfl

theorem chan_at {α : Type} (h : (Chan m).BroadcastsInDim (Full m) ![0, 1, 2, 3]) (x : (Chan m).Idx → α) (b : Fin 16) (o : Fin m) (n : Fin 32768) :
    broadcastInDim (Full m) ![0, 1, 2, 3] h x (ix4 b o n 0) = x (ix4 0 o 0 0) :=
  broadcastInDim_apply _ h x _ _ fun a => match a with
    | ⟨0, _⟩ => rfl
    | ⟨1, _⟩ => by
      show o.val = if m = 1 then 0 else o.val
      split
      · omega
      · rfl
    | ⟨2, _⟩ => rfl
    | ⟨3, _⟩ => rfl

theorem one_at {α : Type} {T : Shape} (h : One.BroadcastsInDim T ![]) (x : One.Idx → α) (j : T.Idx) :
    broadcastInDim T ![] h x j = x ix0 := ValueIdx.broadcastInDim_scalar_apply h x j

/-- Which entries a sum over batches, points and the last axis takes for a channel. -/
theorem fiber_at (h : (Full m).ReducesTo [0, 2, 3] (Flat m)) (o : Fin m) (i : (Full m).Idx) :
    h.drop i = ix1 o ↔ ∃ k : Fin 16 × Fin 32768, ix4 k.1 o k.2 0 = i := by
  have e : (h.drop i 0).val = (i 1).val := rfl
  constructor
  · intro hi
    have ho : (i 1).val = o.val := e.symm.trans (congrArg (fun j : (Flat m).Idx => (j 0).val) hi)
    refine ⟨(i 0, i 2), ?_⟩
    funext a; apply Fin.ext
    match a with
    | ⟨0, _⟩ => rfl
    | ⟨1, _⟩ => exact ho.symm
    | ⟨2, _⟩ => rfl
    | ⟨3, _⟩ => exact (Nat.lt_one_iff.1 (i 3).isLt).symm
  · rintro ⟨k, rfl⟩
    funext b; apply Fin.ext
    match b with
    | ⟨0, _⟩ => exact e

/-- The reference's sum over all samples. -/
theorem sum_at {u : Shape} (h : (Full m).ReducesTo [0, 2, 3] (Flat m)) (hu : 0 < u.numel) (y : FVec Ideal (Full m) .f32) (z : FVec Ideal u .f32) (o : Fin m)
    (hz : z (Shape.Idx.first hu) = 0) (f : ℕ → Fin 32768 → ℝ) (hy : ∀ (b : Fin 16) n, y (ix4 b o n 0) = ((f b n : ℝ) : EReal)) :
    Host.reduceAdd y z h hu (ix1 o) = ((total f : ℝ) : EReal) := by
  rw [ValueIdx.hostReduceAdd_apply, hz]
  have hs := Finset.sum_filter_eq_sum_of_fiber (fun i => h.drop i = ix1 o) (fun k : Fin 16 × Fin 32768 => ix4 k.1 o k.2 0)
    (fun _ _ e => Prod.ext (congrFun e 0) (congrFun e 2)) (fiber_at h o) y
  refine (zero_add _).trans (hs.trans ?_)
  rw [Fintype.sum_prod_type]
  simp only [hy, coe_sum, total]
  rw [Finset.sum_range]

/-- The shape facts that a layer's operations take. -/
structure Facts (m : ℕ) : Prop where
  r : (Full m).ReducesTo [0, 2, 3] (Flat m)
  u : 0 < One.numel
  f : (Flat m).BroadcastsInDim (Chan m) ![1]
  c : (Chan m).BroadcastsInDim (Full m) ![0, 1, 2, 3]
  oc : One.BroadcastsInDim (Chan m) ![]
  of : One.BroadcastsInDim (Full m) ![]

variable (K : Facts m)

/-- The mean of each channel, as the reference makes it. -/
def meanA (y : FVec Ideal (Full m) .f32) : FVec Ideal (Chan m) .f32 :=
  Host.divf (broadcastInDim (Chan m) ![1] K.f (Host.reduceAdd y (constant One .f32 0x00000000#32) K.r K.u))
    (broadcastInDim (Chan m) ![] K.oc (constant One .f32 0x49000000#32))

/-- A layer's array less its mean. -/
def restA (y : FVec Ideal (Full m) .f32) : FVec Ideal (Full m) .f32 :=
  subf y (broadcastInDim (Full m) ![0, 1, 2, 3] K.c (meanA K y))

/-- What the reference divides the sum of squares by. -/
def denA : FVec Ideal One .f32 := subf (constant One .f32 0x49000000#32) (sitofp .f32 (constantI One 32 0#32))

/-- The variance of each channel, as the reference makes it. -/
def varA (y : FVec Ideal (Full m) .f32) : FVec Ideal (Chan m) .f32 :=
  select (broadcastInDim (Chan m) ![] K.oc (cmpf .ogt denA (constant One .f32 0x00000000#32)))
    (Host.divf (broadcastInDim (Chan m) ![1] K.f (Host.reduceAdd (mulf (restA K y) (restA K y)) (constant One .f32 0x00000000#32) K.r K.u))
      (broadcastInDim (Chan m) ![] K.oc denA))
    (broadcastInDim (Chan m) ![] K.oc (id (constant One .f32 0x7FC00000#32)))

/-- A layer's array, normalised and scaled. -/
def normA (y : FVec Ideal (Full m) .f32) (γ : FVec Ideal (Flat m) .f32) : FVec Ideal (Full m) .f32 :=
  mulf (mulf (restA K y) (broadcastInDim (Full m) ![0, 1, 2, 3] K.c
      (Host.rsqrt (addf (varA K y) (broadcastInDim (Chan m) ![] K.oc (constant One .f32 0x3727C5AC#32))))))
    (broadcastInDim (Full m) ![0, 1, 2, 3] K.c (broadcastInDim (Chan m) ![1] K.f γ))

/-- A layer's result. -/
def outA (y : FVec Ideal (Full m) .f32) (γ η : FVec Ideal (Flat m) .f32) : FVec Ideal (Full m) .f32 :=
  maximumf (addf (normA K y γ) (broadcastInDim (Full m) ![0, 1, 2, 3] K.c (broadcastInDim (Chan m) ![1] K.f η)))
    (broadcastInDim (Full m) ![] K.of (constant One .f32 0x00000000#32))

section Reads

variable {y : FVec Ideal (Full m) .f32} {o : Fin m} {d : ℕ → Fin 32768 → ℝ} {β : ℝ}
  (hy : ∀ (b : Fin 16) n, y (ix4 b o n 0) = ((d b n + β : ℝ) : EReal))

theorem zero_first (hu : 0 < One.numel) : (constant (F := Ideal) One .f32 0x00000000#32) (Shape.Idx.first hu) = 0 :=
  Ideal.ofBits_zero_f32

include hy in
theorem mean_at : meanA K y (ix4 0 o 0 0) = ((mean (total d) β : ℝ) : EReal) := by
  refine (ValueIdx.hostDivf_apply _ _ _).trans ?_
  rw [flat_at, one_at, sum_at K.r K.u y _ o (zero_first _) (fun b n => d b n + β) hy]
  refine (congrArg (Ideal.div _) ofBits_cnt).trans ((div_cnt _).trans ?_)
  rw [mean_eq]

include hy in
theorem rest_at (b : Fin 16) (n : Fin 32768) : restA K y (ix4 b o n 0) = ((d b n + β - mean (total d) β : ℝ) : EReal) := by
  have h : restA K y (ix4 b o n 0) = y (ix4 b o n 0) - broadcastInDim (Full m) ![0, 1, 2, 3] K.c (meanA K y) (ix4 b o n 0) := rfl
  rw [h, chan_at, mean_at K hy, hy, ← EReal.coe_sub]

theorem den_at (j : One.Idx) : denA j = ((cnt : ℝ) : EReal) := by
  have h : denA j = Ideal.ofBits .f32 0x49000000#32 - (((0#32 : BitVec 32).toInt : ℝ) : EReal) := rfl
  rw [h, ofBits_cnt]
  simp

include hy in
theorem var_at : varA K y (ix4 0 o 0 0) = ((var (total d) (total fun b n => d b n * d b n) β : ℝ) : EReal) := by
  have hc : broadcastInDim (Chan m) ![] K.oc (cmpf .ogt denA (constant (F := Ideal) One .f32 0x00000000#32)) (ix4 0 o 0 0) = 1#1 := by
    rw [one_at]
    have h : cmpf .ogt denA (constant (F := Ideal) One .f32 0x00000000#32) ix0 = BitVec.ofBool (decide (Ideal.ofBits .f32 0x00000000#32 < denA ix0)) := rfl
    rw [h, den_at, Ideal.ofBits_zero_f32, decide_eq_true (EReal.coe_pos.2 cnt_pos)]
    rfl
  refine (if_pos hc).trans ((ValueIdx.hostDivf_apply _ _ _).trans ?_)
  rw [flat_at, one_at, den_at, sum_at K.r K.u _ _ o (zero_first _)
    (fun b n => (d b n + β - mean (total d) β) * (d b n + β - mean (total d) β)) (fun b n => ?_), div_cnt, var_eq]
  have h : mulf (restA K y) (restA K y) (ix4 b o n 0) = restA K y (ix4 b o n 0) * restA K y (ix4 b o n 0) := rfl
  rw [h, rest_at K hy, ← EReal.coe_mul]

variable {γ : FVec Ideal (Flat m) .f32} {g : ℝ} (hγ : γ (ix1 o) = (g : EReal))

include hy hγ in
theorem norm_at (b : Fin 16) (n : Fin 32768) : normA K y γ (ix4 b o n 0)
    = (((d b n + β - mean (total d) β) * (Real.sqrt (var (total d) (total fun b n => d b n * d b n) β + eps))⁻¹ * g : ℝ) : EReal) := by
  have h : normA K y γ (ix4 b o n 0) = restA K y (ix4 b o n 0) * broadcastInDim (Full m) ![0, 1, 2, 3] K.c
      (Host.rsqrt (addf (varA K y) (broadcastInDim (Chan m) ![] K.oc (constant One .f32 0x3727C5AC#32)))) (ix4 b o n 0)
      * broadcastInDim (Full m) ![0, 1, 2, 3] K.c (broadcastInDim (Chan m) ![1] K.f γ) (ix4 b o n 0) := rfl
  rw [h, chan_at, chan_at, flat_at, hγ, rest_at K hy]
  have hr : Host.rsqrt (addf (varA K y) (broadcastInDim (Chan m) ![] K.oc (constant (F := Ideal) One .f32 0x3727C5AC#32))) (ix4 0 o 0 0)
      = Ideal.rsqrt (varA K y (ix4 0 o 0 0) + Ideal.ofBits .f32 0x3727C5AC#32) := rfl
  rw [hr, var_at K hy, ofBits_eps, ← EReal.coe_add, rsqrt_pos _ (under_pos d β), ← EReal.coe_mul, ← EReal.coe_mul]

variable {η : FVec Ideal (Flat m) .f32}

include hy hγ in
/-- A layer's result, whatever its shift. -/
theorem out_any (b : Fin 16) (n : Fin 32768) : outA K y γ η (ix4 b o n 0)
    = max ((((d b n + β - mean (total d) β) * (Real.sqrt (var (total d) (total fun b n => d b n * d b n) β + eps))⁻¹ * g : ℝ) : EReal) + η (ix1 o)) 0 := by
  have h : outA K y γ η (ix4 b o n 0) = max (normA K y γ (ix4 b o n 0)
      + broadcastInDim (Full m) ![0, 1, 2, 3] K.c (broadcastInDim (Chan m) ![1] K.f η) (ix4 b o n 0)) (Ideal.ofBits .f32 0x00000000#32) := rfl
  rw [h, chan_at, flat_at, norm_at K hy hγ, Ideal.ofBits_zero_f32]

include hy hγ in
/-- A layer's result with a real shift: the scale and the shift that the kernel uses. -/
theorem out_at {e : ℝ} (hη : η (ix1 o) = (e : EReal)) (b : Fin 16) (n : Fin 32768) : outA K y γ η (ix4 b o n 0)
    = ((max (d b n * scale (total d) (total fun b n => d b n * d b n) β g + shift (total d) (total fun b n => d b n * d b n) β g e) 0 : ℝ) : EReal) := by
  rw [out_any K hy hγ, hη, ← EReal.coe_add, norm_eq, relu]

end Reads

end Cert.RefLayer

end
-- ==== Proof.Value.Ref.lean ====
/- The reference's two results, over the reals. -/
module

public import proofs.«01_k».proof.Proof.Gen.ReferenceIdeal.Read
public import proofs.«01_k».proof.Proof.Value.RefLayer
public import proofs.«01_k».proof.Proof.Value.Args

@[expose] public section

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.ShloMosaic.Tactic
open Cert.Maths Cert.Words Cert.RefLayer Cert.Inputs

theorem facts32 : Cert.RefLayer.Facts 32 :=
  ⟨reducesTo_S16x32x32768x1_S32_d0_2_3, h_S_, bcast_S32_S1x32x1x1_1, bcast_S1x32x1x1_S16x32x32768x1_0_1_2_3, bcast_S_S1x32x1x1, bcast_S_S16x32x32768x1⟩
theorem facts64 : Cert.RefLayer.Facts 64 :=
  ⟨reducesTo_S16x64x32768x1_S64_d0_2_3, h_S_, bcast_S64_S1x64x1x1_1, bcast_S1x64x1x1_S16x64x32768x1_0_1_2_3, bcast_S_S1x64x1x1, bcast_S_S16x64x32768x1⟩

variable (x0 : FVec Ideal S16x3x32768 .f32) (x1 : FVec Ideal S16x29x32768 .f32) (x2 : FVec Ideal S32x32 .f32) (x3 x4 x5 : FVec Ideal S32 .f32)
  (x6 : FVec Ideal S32x32 .f32) (x7 x8 x9 : FVec Ideal S32 .f32) (x10 : FVec Ideal S64x32 .f32) (x11 x12 x13 : FVec Ideal S64 .f32)

theorem v30_eq : val_main_v30 (F := Ideal) x0 x1 x2 x3 x4 x5 = outA facts32 (val_main_v11 (F := Ideal) x0 x1 x2 x3) x4 x5 := rfl
theorem v54_eq : val_main_v54 (F := Ideal) x0 x1 x2 x3 x4 x5 x6 x7 x8 x9 = outA facts32 (val_main_v35 (F := Ideal) x0 x1 x2 x3 x4 x5 x6 x7) x8 x9 := rfl
theorem v78_eq : val_main_v78 (F := Ideal) x0 x1 x2 x3 x4 x5 x6 x7 x8 x9 x10 x11 x12 x13
    = outA facts64 (val_main_v59 (F := Ideal) x0 x1 x2 x3 x4 x5 x6 x7 x8 x9 x10 x11) x12 x13 := rfl

/-- A linear map and a bias, as the reference makes them. -/
theorem lin_at (h : FVec Ideal S16x32x32768x1 .f32) (W : FVec Ideal S32x32 .f32) (b : Fin 16) (o : Fin 32) (n : Fin 32768) :
    transpose S16x32x32768x1 [0, 3, 1, 2] (Host.dotGeneral dot_S16x32x32768x1_S32x32_S16x32768x1x32_1_1_023_0_n_n none h W)
      transposes_S16x32768x1x32_S16x32x32768x1_0_3_1_2 (ix4 b o n 0) = ∑ k : Fin 32, h (ix4 b k n 0) * W (ix2 o k) := by
  pointwise []

theorem v6_at (b : Fin 16) (k : Fin 32) (n : Fin 32768) : val_main_v6 (F := Ideal) x0 x1 (ix4 b k n 0)
    = if h : k.val < 3 then x0 (ix3 b ⟨k.val, h⟩ n) else x1 (ix3 b ⟨k.val - 3, by omega⟩ n) := by
  pointwise [val_main_v6, val_main_v5, val_main_v4, val_main_v3, val_main_v1, val_main_v0]

theorem lin64_at (h : FVec Ideal S16x32x32768x1 .f32) (W : FVec Ideal S64x32 .f32) (b : Fin 16) (o : Fin 64) (n : Fin 32768) :
    transpose S16x64x32768x1 [0, 3, 1, 2] (Host.dotGeneral dot_S16x32x32768x1_S64x32_S16x32768x1x64_1_1_023_0_n_n none h W)
      transposes_S16x32768x1x64_S16x64x32768x1_0_3_1_2 (ix4 b o n 0) = ∑ k : Fin 32, h (ix4 b k n 0) * W (ix2 o k) := by
  pointwise []

theorem max_at (y : FVec Ideal S16x64x32768x1 .f32) (b : Fin 16) (o : Fin 64) :
    Host.reduce FloatOps.maximumf y (val_main_cst_11 (F := Ideal)) reducesTo_S16x64x32768x1_S16x64x1_d2 h_S_ (ix3 b o 0)
      = (Finset.univ : Finset (Fin 32768)).fold max ⊥ (fun n => y (ix4 b o n 0)) := by
  pointwise [val_main_cst_11]
  rw [ofBits_bot]

theorem bias_at (x : FVec Ideal S32 .f32) (b : Fin 16) (o : Fin 32) (n : Fin 32768) :
    broadcastInDim S16x32x32768x1 ![0, 1, 2, 3] bcast_S1x32x1x1_S16x32x32768x1_0_1_2_3
      (broadcastInDim S1x32x1x1 ![1] bcast_S32_S1x32x1x1_1 x) (ix4 b o n 0) = x (ix1 o) :=
  (chan_at facts32.c _ b o n).trans (flat_at facts32.f x o)

theorem bias64_at (x : FVec Ideal S64 .f32) (b : Fin 16) (o : Fin 64) (n : Fin 32768) :
    broadcastInDim S16x64x32768x1 ![0, 1, 2, 3] bcast_S1x64x1x1_S16x64x32768x1_0_1_2_3
      (broadcastInDim S1x64x1x1 ![1] bcast_S64_S1x64x1x1_1 x) (ix4 b o n 0) = x (ix1 o) :=
  (chan_at facts64.c _ b o n).trans (flat_at facts64.f x o)

variable {x0 x1 x2 x3 x4 x5 x6 x7 x8 x9 x10 x11 x12} {A : Data} (H : Args x0 x1 x2 x3 x4 x5 x6 x7 x8 x9 x10 x11 x12 A)
include H

theorem input_at (b : Fin 16) (k : Fin 32) (n : Fin 32768) : val_main_v6 (F := Ideal) x0 x1 (ix4 b k n 0) = ((A.x b k n : ℝ) : EReal) := by
  rw [v6_at]
  split
  · rw [H.h0]
  · rw [H.h1]
    have e : (⟨3 + (k.val - 3), by omega⟩ : Fin 32) = k := Fin.ext (by show 3 + (k.val - 3) = k.val; omega)
    exact congrArg (fun k' : Fin 32 => ((A.x b k' n : ℝ) : EReal)) e

theorem v11_at (b : Fin 16) (o : Fin 32) (n : Fin 32768) :
    val_main_v11 (F := Ideal) x0 x1 x2 x3 (ix4 b o n 0) = ((A.d1 b o n + A.b0 o : ℝ) : EReal) := by
  refine (congrArg₂ (· + ·) (lin_at _ _ b o n) (bias_at x3 b o n)).trans ?_
  simp only [input_at H, H.h2, H.h3, ← EReal.coe_mul, coe_sum, ← EReal.coe_add, Data.d1, lin, mul_comm]

theorem v30_at (b : Fin 16) (o : Fin 32) (n : Fin 32768) :
    val_main_v30 (F := Ideal) x0 x1 x2 x3 x4 x5 (ix4 b o n 0) = ((A.h1 b o n : ℝ) : EReal) :=
  out_at facts32 (d := fun b n => A.d1 b o n) (β := A.b0 o) (fun b n => v11_at H b o n) (H.h4 o) (H.h5 o) b n

theorem v35_at (b : Fin 16) (o : Fin 32) (n : Fin 32768) :
    val_main_v35 (F := Ideal) x0 x1 x2 x3 x4 x5 x6 x7 (ix4 b o n 0) = ((A.d2 b o n + A.b1 o : ℝ) : EReal) := by
  refine (congrArg₂ (· + ·) (lin_at _ _ b o n) (bias_at x7 b o n)).trans ?_
  simp only [v30_at H, H.h6, H.h7, ← EReal.coe_mul, coe_sum, ← EReal.coe_add, Data.d2, lin, mul_comm]

theorem v54_at (b : Fin 16) (o : Fin 32) (n : Fin 32768) :
    val_main_v54 (F := Ideal) x0 x1 x2 x3 x4 x5 x6 x7 x8 x9 (ix4 b o n 0) = ((A.h2 b o n : ℝ) : EReal) :=
  out_at facts32 (d := fun b n => A.d2 b o n) (β := A.b1 o) (fun b n => v35_at H b o n) (H.h8 o) (H.h9 o) b n

theorem v59_at (b : Fin 16) (o : Fin 64) (n : Fin 32768) :
    val_main_v59 (F := Ideal) x0 x1 x2 x3 x4 x5 x6 x7 x8 x9 x10 x11 (ix4 b o n 0) = ((A.d3 b o n + A.b2 o : ℝ) : EReal) := by
  refine (congrArg₂ (· + ·) (lin64_at _ _ b o n) (bias64_at x11 b o n)).trans ?_
  simp only [v54_at H, H.h10, H.h11, ← EReal.coe_mul, coe_sum, ← EReal.coe_add, Data.d3, lin, mul_comm]

/-- The reference's second result, as the kernel makes it: the maximum first, then one scale and one shift. -/
theorem v79_at (b : Fin 16) (o : Fin 64) :
    val_main_v79 (F := Ideal) x0 x1 x2 x3 x4 x5 x6 x7 x8 x9 x10 x11 x12 x13 (ix3 b o 0)
      = max (((A.a3 o : ℝ) : EReal) * ((Finset.univ : Finset (Fin 32768)).fold max ⊥ (fun n => ((A.d3 b o n : ℝ) : EReal)) + ((A.b2 o : ℝ) : EReal))
          + (x13 (ix1 o) - ((A.m3 o : ℝ) : EReal) * ((A.a3 o : ℝ) : EReal))) 0 := by
  refine (max_at _ b o).trans ?_
  refine Eq.trans (congrArg (fun f : Fin 32768 → EReal => (Finset.univ : Finset (Fin 32768)).fold max ⊥ f) (funext fun n =>
    out_any facts64 (d := fun b n => A.d3 b o n) (β := A.b2 o) (fun b n => v59_at H b o n) (H.h12 o) b n)) ?_
  exact last_layer (fun n => A.d3 b o n) (sum1 A.d3 o) (sum2 A.d3 o) (A.b2 o) (A.g2 o) (x13 (ix1 o)) (H.pos o)

end Cert.ReferenceIdeal.Layers

end
-- ==== Proof.Value.Pre.lean ====
/- What the precondition says: every argument but the last shift is an array of real numbers, and the last scale is not
   negative. -/
module

public import proofs.«01_k».proof.Pre_finite_scale_nonneg
public import proofs.«01_k».proof.Proof.Value.Words
public import proofs.«01_k».proof.Proof.Value.Args
public import Idealize.ShloMosaic.Lib.IdealHost

@[expose] public section

noncomputable section

namespace Cert.Inputs

open Idealize.ShloMosaic Cert.Maths Cert.Words
open Cert.Pre_finite_scale_nonneg (S_ fn)

/-- An element whose size is less than infinity is a real number. -/
theorem real_of_lt {S : Shape} (x : FVec Ideal S .f32) (h : S_.BroadcastsInDim S ![])
    (e : cmpf .olt (Host.absf x) (broadcastInDim S ![] h (constant (F := Ideal) S_ .f32 0x7F800000#32)) = fun _ => 1#1) (j : S.Idx) :
    x j = (((x j : EReal).toReal : ℝ) : EReal) := by
  have h1 : BitVec.ofBool (decide (max (x j : EReal) (-(x j : EReal)) < broadcastInDim S ![] h (constant (F := Ideal) S_ .f32 0x7F800000#32) j)) = 1#1 := congrFun e j
  rw [ValueIdx.broadcastInDim_scalar_apply] at h1
  have h2 : max (x j : EReal) (-(x j : EReal)) < Ideal.ofBits .f32 0x7F800000#32 := by
    by_contra hn
    exact absurd ((congrArg BitVec.ofBool (decide_eq_false hn)).symm.trans h1) (by decide)
  rw [ofBits_top] at h2
  have ht : (x j : EReal) ≠ ⊤ := fun he => absurd (lt_of_le_of_lt (le_max_left _ _) h2) (by rw [he]; exact lt_irrefl _)
  have hb : (x j : EReal) ≠ ⊥ := fun he => absurd (lt_of_le_of_lt (le_max_right _ _) h2) (by rw [he, EReal.neg_bot]; exact lt_irrefl _)
  exact (EReal.coe_toReal ht hb).symm

/-- An element that compares as at least zero is not negative. -/
theorem nonneg_of_ge {S : Shape} (x : FVec Ideal S .f32) (h : S_.BroadcastsInDim S ![])
    (e : cmpf .oge x (broadcastInDim S ![] h (constant (F := Ideal) S_ .f32 0x00000000#32)) = fun _ => 1#1) (j : S.Idx) :
    0 ≤ (x j : EReal).toReal := by
  have h1 : BitVec.ofBool (decide (broadcastInDim S ![] h (constant (F := Ideal) S_ .f32 0x00000000#32) j ≤ (x j : EReal))) = 1#1 := congrFun e j
  rw [ValueIdx.broadcastInDim_scalar_apply] at h1
  have h2 : Ideal.ofBits .f32 0x00000000#32 ≤ (x j : EReal) := by
    by_contra hn
    exact absurd ((congrArg BitVec.ofBool (decide_eq_false hn)).symm.trans h1) (by decide)
  rw [Ideal.ofBits_zero_f32] at h2
  exact EReal.toReal_nonneg h2

variable [Cert.Pre_finite_scale_nonneg.Facts]

/-- Arguments that meet the precondition are real numbers. -/
theorem exists_data (x0 : FVec Ideal ⟨3, ![16, 3, 32768]⟩ .f32) (x1 : FVec Ideal ⟨3, ![16, 29, 32768]⟩ .f32) (x2 : FVec Ideal ⟨2, ![32, 32]⟩ .f32)
    (x3 x4 x5 : FVec Ideal ⟨1, ![32]⟩ .f32) (x6 : FVec Ideal ⟨2, ![32, 32]⟩ .f32) (x7 x8 x9 : FVec Ideal ⟨1, ![32]⟩ .f32)
    (x10 : FVec Ideal ⟨2, ![64, 32]⟩ .f32) (x11 x12 x13 : FVec Ideal ⟨1, ![64]⟩ .f32)
    (H : (fn (F := Ideal) x0 x1 x2 x3 x4 x5 x6 x7 x8 x9 x10 x11 x12 x13).1 = (fun _ => 1#1)
    ∧ (fn (F := Ideal) x0 x1 x2 x3 x4 x5 x6 x7 x8 x9 x10 x11 x12 x13).2.1 = (fun _ => 1#1)
    ∧ (fn (F := Ideal) x0 x1 x2 x3 x4 x5 x6 x7 x8 x9 x10 x11 x12 x13).2.2.1 = (fun _ => 1#1)
    ∧ (fn (F := Ideal) x0 x1 x2 x3 x4 x5 x6 x7 x8 x9 x10 x11 x12 x13).2.2.2.1 = (fun _ => 1#1)
    ∧ (fn (F := Ideal) x0 x1 x2 x3 x4 x5 x6 x7 x8 x9 x10 x11 x12 x13).2.2.2.2.1 = (fun _ => 1#1)
    ∧ (fn (F := Ideal) x0 x1 x2 x3 x4 x5 x6 x7 x8 x9 x10 x11 x12 x13).2.2.2.2.2.1 = (fun _ => 1#1)
    ∧ (fn (F := Ideal) x0 x1 x2 x3 x4 x5 x6 x7 x8 x9 x10 x11 x12 x13).2.2.2.2.2.2.1 = (fun _ => 1#1)
    ∧ (fn (F := Ideal) x0 x1 x2 x3 x4 x5 x6 x7 x8 x9 x10 x11 x12 x13).2.2.2.2.2.2.2.1 = (fun _ => 1#1)
    ∧ (fn (F := Ideal) x0 x1 x2 x3 x4 x5 x6 x7 x8 x9 x10 x11 x12 x13).2.2.2.2.2.2.2.2.1 = (fun _ => 1#1)
    ∧ (fn (F := Ideal) x0 x1 x2 x3 x4 x5 x6 x7 x8 x9 x10 x11 x12 x13).2.2.2.2.2.2.2.2.2.1 = (fun _ => 1#1)
    ∧ (fn (F := Ideal) x0 x1 x2 x3 x4 x5 x6 x7 x8 x9 x10 x11 x12 x13).2.2.2.2.2.2.2.2.2.2.1 = (fun _ => 1#1)
    ∧ (fn (F := Ideal) x0 x1 x2 x3 x4 x5 x6 x7 x8 x9 x10 x11 x12 x13).2.2.2.2.2.2.2.2.2.2.2.1 = (fun _ => 1#1)
    ∧ (fn (F := Ideal) x0 x1 x2 x3 x4 x5 x6 x7 x8 x9 x10 x11 x12 x13).2.2.2.2.2.2.2.2.2.2.2.2.1 = (fun _ => 1#1)
    ∧ (fn (F := Ideal) x0 x1 x2 x3 x4 x5 x6 x7 x8 x9 x10 x11 x12 x13).2.2.2.2.2.2.2.2.2.2.2.2.2 = (fun _ => 1#1)) :
    ∃ A : Data, Args x0 x1 x2 x3 x4 x5 x6 x7 x8 x9 x10 x11 x12 A := by
  obtain ⟨e0, e1, e2, e3, e4, e5, e6, e7, e8, e9, e10, e11, e12, e13⟩ := H
  refine ⟨{
    x := fun b k n => if hb : b < 16 then (if hk : k.val < 3 then (x0 (ix3 ⟨b, hb⟩ ⟨k.val, hk⟩ n) : EReal).toReal
      else (x1 (ix3 ⟨b, hb⟩ ⟨k.val - 3, by omega⟩ n) : EReal).toReal) else 0
    W0 := fun o k => (x2 (ix2 o k) : EReal).toReal
    b0 := fun o => (x3 (ix1 o) : EReal).toReal
    g0 := fun o => (x4 (ix1 o) : EReal).toReal
    e0 := fun o => (x5 (ix1 o) : EReal).toReal
    W1 := fun o k => (x6 (ix2 o k) : EReal).toReal
    b1 := fun o => (x7 (ix1 o) : EReal).toReal
    g1 := fun o => (x8 (ix1 o) : EReal).toReal
    e1 := fun o => (x9 (ix1 o) : EReal).toReal
    W2 := fun o k => (x10 (ix2 o k) : EReal).toReal
    b2 := fun o => (x11 (ix1 o) : EReal).toReal
    g2 := fun o => (x12 (ix1 o) : EReal).toReal }, ?_⟩
  exact {
    h0 := fun b k n => by
      simp only [dif_pos b.isLt, dif_pos k.isLt]
      exact real_of_lt x0 _ e0 _
    h1 := fun b k n => by
      have hk : ¬ 3 + k.val < 3 := by omega
      have hs : (⟨3 + k.val - 3, by omega⟩ : Fin 29) = k := Fin.ext (by show 3 + k.val - 3 = k.val; omega)
      simp only [dif_pos b.isLt, dif_neg hk, hs]
      exact real_of_lt x1 _ e1 _
    h2 := fun o k => real_of_lt x2 _ e2 _
    h3 := fun o => real_of_lt x3 _ e3 _
    h4 := fun o => real_of_lt x4 _ e4 _
    h5 := fun o => real_of_lt x5 _ e5 _
    h6 := fun o k => real_of_lt x6 _ e6 _
    h7 := fun o => real_of_lt x7 _ e7 _
    h8 := fun o => real_of_lt x8 _ e8 _
    h9 := fun o => real_of_lt x9 _ e9 _
    h10 := fun o k => real_of_lt x10 _ e10 _
    h11 := fun o => real_of_lt x11 _ e11 _
    h12 := fun o => real_of_lt x12 _ e12 _
    pos := fun o => nonneg_of_ge x12 _ e13 _ }

end Cert.Inputs

end
-- ==== Proof.Value.Agree.lean ====
/- The kernel's two results and the reference's are equal. -/
module

public import proofs.«01_k».proof.Proof.Value.Whole
public import proofs.«01_k».proof.Proof.Value.Ref
public import proofs.«01_k».proof.Proof.Value.Pre

@[expose] public section

set_option maxRecDepth 16384

noncomputable section

namespace Cert.Agree

open Idealize.ShloMosaic Idealize.ShloMosaic.TcCoe
open Cert.Maths Cert.KernelIdeal

variable {m : (ℓ : Loc nD τ sig) → Buf (Elt Ideal) ℓ} {c : Dev nD}

/-- The first results are zeros. -/
theorem first : (show FVec Ideal S16x3x1 .f32 from Whole.U5 m c (Proc.devRef .tc main_v13)) = Cert.ReferenceIdeal.Read.val_main_v80 (F := Ideal) :=
  (Whole.zeros (m := m) (c := c)).trans (funext fun j => rfl)

/-- The second results agree, element by element. -/
theorem second {A : Data} (H : Whole.Real m c A) : (show FVec Ideal S16x64x1 .f32 from Whole.U5 m c (Proc.devRef .tc main_v12))
    = Cert.ReferenceIdeal.Read.val_main_v79 (F := Ideal) (Whole.inp m c Cert.KernelIdeal.main_arg0) (Whole.inp m c Cert.KernelIdeal.main_arg1) (Whole.inp m c Cert.KernelIdeal.main_arg2) (Whole.inp m c Cert.KernelIdeal.main_arg3) (Whole.inp m c Cert.KernelIdeal.main_arg4) (Whole.inp m c Cert.KernelIdeal.main_arg5) (Whole.inp m c Cert.KernelIdeal.main_arg6) (Whole.inp m c Cert.KernelIdeal.main_arg7) (Whole.inp m c Cert.KernelIdeal.main_arg8) (Whole.inp m c Cert.KernelIdeal.main_arg9) (Whole.inp m c Cert.KernelIdeal.main_arg10) (Whole.inp m c Cert.KernelIdeal.main_arg11) (Whole.inp m c Cert.KernelIdeal.main_arg12) (Whole.inp m c Cert.KernelIdeal.main_arg13) := by
  funext j
  have e : j = ix3 (j 0) (j 1) 0 := by
    funext a
    match a with
    | ⟨0, _⟩ => rfl
    | ⟨1, _⟩ => rfl
    | ⟨2, _⟩ => exact Fin.ext (Nat.lt_one_iff.1 (j 2).isLt)
  rw [e]
  exact (Whole.result_at H (j 0) (j 1)).trans (Cert.ReferenceIdeal.Layers.v79_at (x13 := Whole.inp m c main_arg13) H (j 0) (j 1)).symm

end Cert.Agree

end
-- ==== Proof.lean ====
/- The certificate's claim. The frames come from the two `Whole` modules (the kernel's run, once over float words and
   once over the extended reals) and from the reference's own run; the idealized program is the kernel itself, with
   nothing rewritten. The equality with the reference comes from `Value.Agree`, for arguments that are real numbers. -/
module

public import proofs.«01_k».proof.Defs
public import proofs.«01_k».proof.Proof.Kernel.Whole
public import proofs.«01_k».proof.Proof.KernelIdeal.Whole
public import proofs.«01_k».proof.Proof.Value.Agree
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scale_nonneg
public import Idealize.ShloMosaic.Lib.Quiescent
public import Idealize.ShloMosaic.Adequacy
public import Idealize.ShloMosaic.Init

@[expose] public section

noncomputable section

namespace Cert.Proof

open Idealize.ShloMosaic Idealize.SL.Sem

/-- The kernel over float words ends with its arguments as they were and every counter at zero. -/
theorem kernel_frame : quiescent_Kernel (hKernel := Cert.Kernel.Gen.facts) := fun m g _ =>
  θ_run_mono (Cert.Kernel.Whole.run_args (F := Bits) m g) fun _ h => ⟨fun c => (h.1 c).2, h.2⟩

/-- The kernel over the extended reals ends with its arguments as they were and every counter at zero. -/
theorem ideal_frame : quiescent_KernelIdeal (hKernelIdeal := Cert.KernelIdeal.Gen.facts) := fun m g _ =>
  θ_run_mono (Cert.KernelIdeal.Whole.run_args (F := Ideal) m g) fun _ h => ⟨fun c => (h.1 c).2, h.2⟩

/-- The reference ends with its arguments as they were; it declares no counter at all. -/
theorem reference_frame : quiescent_ReferenceIdeal (hReferenceIdeal := Cert.ReferenceIdeal.Gen.facts) := fun m g _ =>
  θ_run_mono (Cert.ReferenceIdeal.Value.run (F := Ideal) m g) fun _ h =>
    ⟨fun c => (h c).2.2, sem_eq_zero_of_no_sems (by decide) _⟩

/-- The same of arguments that meet the precondition. -/
theorem ideal_frame_pre : quiescent_KernelIdeal_pre_finite_scale_nonneg (hKernelIdeal := Cert.KernelIdeal.Gen.facts)
    (hPre_finite_scale_nonneg := Cert.Pre_finite_scale_nonneg.Gen.facts) := fun m g _ => ideal_frame m g trivial
theorem reference_frame_pre : quiescent_ReferenceIdeal_pre_finite_scale_nonneg (hReferenceIdeal := Cert.ReferenceIdeal.Gen.facts)
    (hPre_finite_scale_nonneg := Cert.Pre_finite_scale_nonneg.Gen.facts) := fun m g _ => reference_frame m g trivial

/-- From equal arguments that meet the precondition the kernel and the reference end with equal results. -/
theorem equal_results : algebraic_KernelIdeal_ReferenceIdeal_pre_finite_scale_nonneg (hKernelIdeal := Cert.KernelIdeal.Gen.facts)
    (hReferenceIdeal := Cert.ReferenceIdeal.Gen.facts) (hPre_finite_scale_nonneg := Cert.Pre_finite_scale_nonneg.Gen.facts) := by
  intro m g m' g' hpre harg
  letI := Cert.Pre_finite_scale_nonneg.Gen.facts
  refine ⟨fun c => Cert.KernelIdeal.Whole.U5 m c (Proc.devRef .tc Cert.KernelIdeal.main_v13),
    fun c => Cert.KernelIdeal.Whole.U5 m c (Proc.devRef .tc Cert.KernelIdeal.main_v12), ?_, ?_⟩
  · exact θ_run_mono (Cert.KernelIdeal.Whole.run_args (F := Ideal) m g) fun _ h c =>
      ⟨(h.1 c).1 _ (Cert.KernelIdeal.Whole.mem_uc Cert.KernelIdeal.main_v13 (by decide)),
        (h.1 c).1 _ (Cert.KernelIdeal.Whole.mem_uc Cert.KernelIdeal.main_v12 (by decide)), (h.1 c).2⟩
  · refine θ_run_mono (Cert.ReferenceIdeal.Value.run (F := Ideal) m' g') fun _ h c => ⟨?_, ?_, (h c).2.2⟩
    · exact (h c).1.trans ((Cert.ReferenceIdeal.Read.val_main_v80_eq (fun b => m' (c, b))).trans Cert.Agree.first.symm)
    · obtain ⟨A, H⟩ := Cert.Inputs.exists_data _ _ _ _ _ _ _ _ _ _ _ _ _ _ (hpre c)
      obtain ⟨a0, a1, a2, a3, a4, a5, a6, a7, a8, a9, a10, a11, a12, a13⟩ := harg c
      refine (h c).2.1.trans ((Cert.ReferenceIdeal.Read.val_main_v79_eq (fun b => m' (c, b))).trans ?_)
      refine Eq.trans ?_ (Cert.Agree.second (m := m) (c := c) H).symm
      show Cert.ReferenceIdeal.Read.val_main_v79 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_scale_nonneg.Gen.facts,
    kernel_frame, ideal_frame, ideal_frame_pre, reference_frame, reference_frame_pre, trivial, equal_results⟩

end Cert.Proof

end
